-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_eight_clear [hPre_top_eight_clear : Cert.Pre_top_eight_clear.Facts] (m : (ℓ : Loc Cert.KernelIdeal.nD Cert.KernelIdeal.τ Cert.KernelIdeal.sig) → Buf (Elt Ideal) ℓ) : Prop :=
  ∀ c : Dev Cert.KernelIdeal.nD,
    (Cert.Pre_top_eight_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_top_eight_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_top_eight_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_eight_clear [hPre_top_eight_clear : Cert.Pre_top_eight_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_eight_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_top_eight_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_top_eight_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_top_eight_clear [hKernelIdeal : Cert.KernelIdeal.Facts] [hPre_top_eight_clear : Cert.Pre_top_eight_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_eight_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_top_eight_clear [hReferenceIdeal : Cert.ReferenceIdeal.Facts] [hPre_top_eight_clear : Cert.Pre_top_eight_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_eight_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_two" .f32 0x3FB504F3#32 ((Real.sqrt 2 : ℝ) : EReal)

def algebraic_KernelIdeal_ReferenceIdeal_pre_top_eight_clear [hKernelIdeal : Cert.KernelIdeal.Facts] [hReferenceIdeal : Cert.ReferenceIdeal.Facts] [hPre_top_eight_clear : Cert.Pre_top_eight_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_eight_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_top_eight_clear : Cert.Pre_top_eight_clear.Facts),
    quiescent_Kernel (hKernel := hKernel)
    ∧ quiescent_KernelIdeal (hKernelIdeal := hKernelIdeal)
    ∧ quiescent_KernelIdeal_pre_top_eight_clear (hKernelIdeal := hKernelIdeal) (hPre_top_eight_clear := hPre_top_eight_clear)
    ∧ quiescent_ReferenceIdeal (hReferenceIdeal := hReferenceIdeal)
    ∧ quiescent_ReferenceIdeal_pre_top_eight_clear (hReferenceIdeal := hReferenceIdeal) (hPre_top_eight_clear := hPre_top_eight_clear)
    ∧ preserves_Kernel_KernelIdeal
    ∧ algebraic_KernelIdeal_ReferenceIdeal_pre_top_eight_clear (hKernelIdeal := hKernelIdeal) (hReferenceIdeal := hReferenceIdeal) (hPre_top_eight_clear := hPre_top_eight_clear)
-- ==== Pre_top_eight_clear.lean ====
abbrev S2x4096x768 : Shape := ⟨3, ![2, 4096, 768]⟩
abbrev S768 : Shape := ⟨1, ![768]⟩
abbrev S_ : Shape := ⟨0, ![]⟩
abbrev S2x4096x4096 : Shape := ⟨3, ![2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S2x4096x9 : Shape := ⟨3, ![2, 4096, 9]⟩
abbrev S1x4096x1 : Shape := ⟨3, ![1, 4096, 1]⟩
abbrev S2x4096x8 : Shape := ⟨3, ![2, 4096, 8]⟩

class Facts : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  bcast_S1x4096x4096_S2x4096x4096_0_1_2 : S1x4096x4096.BroadcastsInDim S2x4096x4096 (![0, 1, 2] : Fin 3 → Fin S2x4096x4096.rank)
  bcast_S_S2x4096x4096 : S_.BroadcastsInDim S2x4096x4096 (![] : Fin 0 → Fin S2x4096x4096.rank)
  sliceFits_S2x4096x4096_S2x4096x9 : S2x4096x4096.Slices (fun _ => 0) S2x4096x9
  bcast_S_S4096 : S_.BroadcastsInDim S4096 (![] : Fin 0 → Fin S4096.rank)
  bcast_S4096_S1x4096x1_1 : S4096.BroadcastsInDim S1x4096x1 (![1] : Fin 1 → Fin S1x4096x1.rank)
  bcast_S_S2x4096x768 : S_.BroadcastsInDim S2x4096x768 (![] : Fin 0 → Fin S2x4096x768.rank)
  slices_S2x4096x9_S2x4096x8_0_0_1 : S2x4096x9.Slices ![0, 0, 1] S2x4096x8
  slices_S2x4096x9_S2x4096x8_0_0_0 : S2x4096x9.Slices ![0, 0, 0] S2x4096x8
  bcast_S1x4096x1_S2x4096x8_0_1_2 : S1x4096x1.BroadcastsInDim S2x4096x8 (![0, 1, 2] : Fin 3 → Fin S2x4096x8.rank)
  dot_S2x4096x768_S2x4096x768_S2x4096x4096_2_2_1_1_0_0_wf : DotDims.WF S2x4096x768 S2x4096x768 S2x4096x4096 [2] [2] [1] [1] [0] [0]

variable [Facts]

def dot_S2x4096x768_S2x4096x768_S2x4096x4096_2_2_1_1_0_0 : DotDims S2x4096x768 S2x4096x768 S2x4096x4096 where
  lhsContracting := [2]
  rhsContracting := [2]
  lhsNonContracting := [1]
  rhsNonContracting := [1]
  lhsBatch := [0]
  rhsBatch := [0]
  wf := dot_S2x4096x768_S2x4096x768_S2x4096x4096_2_2_1_1_0_0_wf
def fn_where {F : FTy → Type} [FloatOps F] (arg0 : IVec S1x4096x4096 1) (arg1 : FVec F S2x4096x4096 .f32) (arg2 : FVec F S_ .f32) : FVec F S2x4096x4096 .f32 :=
  let v0 : IVec S2x4096x4096 1 := broadcastInDim S2x4096x4096 ![0, 1, 2] bcast_S1x4096x4096_S2x4096x4096_0_1_2 arg0
  let v1 : FVec F S2x4096x4096 .f32 := broadcastInDim S2x4096x4096 ![] bcast_S_S2x4096x4096 arg2
  let v2 : FVec F S2x4096x4096 .f32 := select v0 arg1 v1
  v2

def fn_part1 {F : FTy → Type} [FloatOps F] (main_values : FVec F S2x4096x9 .f32) (main_v11 : IVec S1x4096x1 1) (main_v14 : IVec S2x4096x768 1) (main_v15 : IVec S1x4096x4096 1) (main_v17 : IVec S2x4096x4096 1) : IVec S2x4096x768 1 × IVec S2x4096x4096 1 × IVec S2x4096x8 1 :=
  let main_v18 : IVec S2x4096x4096 1 := broadcastInDim S2x4096x4096 ![0, 1, 2] bcast_S1x4096x4096_S2x4096x4096_0_1_2 main_v15
  let main_v19 : IVec S2x4096x4096 1 := ori main_v18 main_v17
  let main_v20 : FVec F S2x4096x8 .f32 := (extractStridedSlice S2x4096x8 ![0, 0, 1] · slices_S2x4096x9_S2x4096x8_0_0_1) main_values
  let main_v21 : FVec F S2x4096x8 .f32 := (extractStridedSlice S2x4096x8 ![0, 0, 0] · slices_S2x4096x9_S2x4096x8_0_0_0) main_values
  let main_v22 : IVec S2x4096x8 1 := cmpf .olt main_v20 main_v21
  let main_v23 : IVec S2x4096x8 1 := broadcastInDim S2x4096x8 ![0, 1, 2] bcast_S1x4096x1_S2x4096x8_0_1_2 main_v11
  let main_v24 : IVec S2x4096x8 1 := ori main_v23 main_v22
  (main_v14, main_v19, main_v24)

def fn {F : FTy → Type} [FloatOps F] (main_arg0 : FVec F S2x4096x768 .f32) (main_arg1 : FVec F S768 .f32) (main_arg2 : FVec F S768 .f32) (main_arg3 : FVec F S_ .f32) (main_arg4 : FVec F S_ .f32) : IVec S2x4096x768 1 × IVec S2x4096x4096 1 × IVec S2x4096x8 1 :=
  let main_v0 : FVec F S2x4096x4096 .f32 := (fun l r => Host.dotGeneral dot_S2x4096x768_S2x4096x768_S2x4096x4096_2_2_1_1_0_0 none l r) main_arg0 main_arg0
  let main_v1 : IVec S4096 32 := iotaInDim S4096 32 0
  let main_v2 : IVec S1x4096 32 := broadcastInDim S1x4096 ![1] bcast_S4096_S1x4096_1 main_v1
  let main_v3 : IVec S4096x1 32 := broadcastInDim S4096x1 ![0] bcast_S4096_S4096x1_0 main_v1
  let main_v4 : IVec S4096x4096 32 := broadcastInDim S4096x4096 ![0, 1] bcast_S1x4096_S4096x4096_0_1 main_v2
  let main_v5 : IVec S4096x4096 32 := broadcastInDim S4096x4096 ![0, 1] bcast_S4096x1_S4096x4096_0_1 main_v3
  let main_v6 : IVec S4096x4096 1 := cmpi .sle main_v4 main_v5
  let main_v7 : IVec S1x4096x4096 1 := broadcastInDim S1x4096x4096 ![1, 2] bcast_S4096x4096_S1x4096x4096_1_2 main_v6
  let main_cst : FVec F S_ .f32 := constant S_ .f32 0xFF7FFFFF#32
  let main_v8 : FVec F S2x4096x4096 .f32 := fn_where (F := F) main_v7 main_v0 main_cst
  let main_values : FVec F S2x4096x9 .f32 := (fun x => (Host.topK S2x4096x9 2 (FloatOps.cmpfTotal .gt) x sliceFits_S2x4096x4096_S2x4096x9).1) main_v8
  let main_indices : IVec S2x4096x9 32 := (fun x => (Host.topK S2x4096x9 2 (FloatOps.cmpfTotal .gt) x sliceFits_S2x4096x4096_S2x4096x9).2) main_v8
  let main_c : IVec S_ 32 := constantI S_ 32 8#32
  let main_v9 : IVec S4096 32 := broadcastInDim S4096 ![] bcast_S_S4096 main_c
  let main_v10 : IVec S4096 1 := cmpi .slt main_v1 main_v9
  let main_v11 : IVec S1x4096x1 1 := broadcastInDim S1x4096x1 ![1] bcast_S4096_S1x4096x1_1 main_v10
  let main_v12 : FVec F S2x4096x768 .f32 := Host.absf main_arg0
  let main_cst_0 : FVec F S_ .f32 := constant S_ .f32 0x7F800000#32
  let main_v13 : FVec F S2x4096x768 .f32 := broadcastInDim S2x4096x768 ![] bcast_S_S2x4096x768 main_cst_0
  let main_v14 : IVec S2x4096x768 1 := cmpf .olt main_v12 main_v13
  let main_v15 : IVec S1x4096x4096 1 := noti main_v7
  let main_cst_1 : FVec F S_ .f32 := constant S_ .f32 0xFCF0BDC2#32
  let main_v16 : FVec F S2x4096x4096 .f32 := broadcastInDim S2x4096x4096 ![] bcast_S_S2x4096x4096 main_cst_1
  let main_v17 : IVec S2x4096x4096 1 := cmpf .oge main_v0 main_v16
  fn_part1 (F := F) main_values main_v11 main_v14 main_v15 main_v17
-- ==== Kernel.lean ====
abbrev S2x4096x768 : Shape := ⟨3, ![2, 4096, 768]⟩
abbrev S768 : Shape := ⟨1, ![768]⟩
abbrev S_ : Shape := ⟨0, ![]⟩
abbrev S1 : Shape := ⟨1, ![1]⟩
abbrev S2 : Shape := ⟨1, ![2]⟩
abbrev S2x1024x768 : Shape := ⟨3, ![2, 1024, 768]⟩
abbrev S1x256x768 : Shape := ⟨3, ![1, 256, 768]⟩
abbrev S1x1024x768 : Shape := ⟨3, ![1, 1024, 768]⟩
abbrev S256x768 : Shape := ⟨2, ![256, 768]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1x768 : Shape := ⟨2, ![1, 768]⟩
abbrev S1x2048x768 : Shape := ⟨3, ![1, 2048, 768]⟩
abbrev S2048x768 : Shape := ⟨2, ![2048, 768]⟩
abbrev S256x2048 : Shape := ⟨2, ![256, 2048]⟩
abbrev S1x3072x768 : Shape := ⟨3, ![1, 3072, 768]⟩
abbrev S3072x768 : Shape := ⟨2, ![3072, 768]⟩
abbrev S256x3072 : Shape := ⟨2, ![256, 3072]⟩
abbrev S1x4096x768 : Shape := ⟨3, ![1, 4096, 768]⟩
abbrev S4096x768 : Shape := ⟨2, ![4096, 768]⟩
abbrev S256x4096 : Shape := ⟨2, ![256, 4096]⟩

abbrev nBuf : Space → Nat
  | .hbm => 36
  | .vmem => 56
  | .smem => 4
  | _ => 0

abbrev bufTy : (tb : Table) → Fin (tcTables nBuf tb) → BufTy
  | .hbm, ⟨0, _⟩ => ⟨S2x4096x768, .f32⟩
  | .hbm, ⟨1, _⟩ => ⟨S768, .f32⟩
  | .hbm, ⟨2, _⟩ => ⟨S768, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S2, .f32⟩
  | .hbm, ⟨27, _⟩ => ⟨S2x4096x768, .bf16⟩
  | .hbm, ⟨28, _⟩ => ⟨S2x4096x768, .f32⟩
  | .hbm, ⟨29, _⟩ => ⟨S2x4096x768, .f32⟩
  | .hbm, ⟨30, _⟩ => ⟨S2x4096x768, .bf16⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S2x1024x768, .f32⟩
  | .hbm, ⟨35, _⟩ => ⟨S2x4096x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S768, .f32⟩
  | .local _ .vmem, ⟨11, _⟩ => ⟨S768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .bf16⟩
  | .local _ .vmem, ⟨17, _⟩ => ⟨S1x256x768, .bf16⟩
  | .local _ .vmem, ⟨18, _⟩ => ⟨S1x256x768, .bf16⟩
  | .local _ .vmem, ⟨19, _⟩ => ⟨S1x256x768, .bf16⟩
  | .local _ .vmem, ⟨20, _⟩ => ⟨S1x2048x768, .bf16⟩
  | .local _ .vmem, ⟨21, _⟩ => ⟨S1x2048x768, .bf16⟩
  | .local _ .vmem, ⟨22, _⟩ => ⟨S1x2048x768, .bf16⟩
  | .local _ .vmem, ⟨23, _⟩ => ⟨S1x2048x768, .bf16⟩
  | .local _ .vmem, ⟨24, _⟩ => ⟨S768, .f32⟩
  | .local _ .vmem, ⟨25, _⟩ => ⟨S768, .f32⟩
  | .local _ .vmem, ⟨26, _⟩ => ⟨S1x256x768, .f32⟩
  | .local _ .vmem, ⟨27, _⟩ => ⟨S1x256x768, .f32⟩
  | .local _ .vmem, ⟨28, _⟩ => ⟨S1x256x768, .f32⟩
  | .local _ .vmem, ⟨29, _⟩ => ⟨S1x256x768, .f32⟩
  | .local _ .vmem, ⟨30, _⟩ => ⟨S1x256x768, .bf16⟩
  | .local _ .vmem, ⟨31, _⟩ => ⟨S1x256x768, .bf16⟩
  | .local _ .vmem, ⟨32, _⟩ => ⟨S1x256x768, .bf16⟩
  | .local _ .vmem, ⟨33, _⟩ => ⟨S1x256x768, .bf16⟩
  | .local _ .vmem, ⟨34, _⟩ => ⟨S1x3072x768, .bf16⟩
  | .local _ .vmem, ⟨35, _⟩ => ⟨S1x3072x768, .bf16⟩
  | .local _ .vmem, ⟨36, _⟩ => ⟨S1x3072x768, .bf16⟩
  | .local _ .vmem, ⟨37, _⟩ => ⟨S1x3072x768, .bf16⟩
  | .local _ .vmem, ⟨38, _⟩ => ⟨S768, .f32⟩
  | .local _ .vmem, ⟨39, _⟩ => ⟨S768, .f32⟩
  | .local _ .vmem, ⟨40, _⟩ => ⟨S1x256x768, .f32⟩
  | .local _ .vmem, ⟨41, _⟩ => ⟨S1x256x768, .f32⟩
  | .local _ .vmem, ⟨42, _⟩ => ⟨S1x256x768, .f32⟩
  | .local _ .vmem, ⟨43, _⟩ => ⟨S1x256x768, .f32⟩
  | .local _ .vmem, ⟨44, _⟩ => ⟨S1x256x768, .bf16⟩
  | .local _ .vmem, ⟨45, _⟩ => ⟨S1x256x768, .bf16⟩
  | .local _ .vmem, ⟨46, _⟩ => ⟨S1x256x768, .bf16⟩
  | .local _ .vmem, ⟨47, _⟩ => ⟨S1x256x768, .bf16⟩
  | .local _ .vmem, ⟨48, _⟩ => ⟨S1x4096x768, .bf16⟩
  | .local _ .vmem, ⟨49, _⟩ => ⟨S1x4096x768, .bf16⟩
  | .local _ .vmem, ⟨50, _⟩ => ⟨S1x4096x768, .bf16⟩
  | .local _ .vmem, ⟨51, _⟩ => ⟨S1x4096x768, .bf16⟩
  | .local _ .vmem, ⟨52, _⟩ => ⟨S768, .f32⟩
  | .local _ .vmem, ⟨53, _⟩ => ⟨S768, .f32⟩
  | .local _ .vmem, ⟨54, _⟩ => ⟨S1x256x768, .f32⟩
  | .local _ .vmem, ⟨55, _⟩ => ⟨S1x256x768, .f32⟩
  | .local _ .smem, ⟨0, _⟩ => ⟨S2, .f32⟩
  | .local _ .smem, ⟨1, _⟩ => ⟨S2, .f32⟩
  | .local _ .smem, ⟨2, _⟩ => ⟨S2, .f32⟩
  | .local _ .smem, ⟨3, _⟩ => ⟨S2, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_cst_0 : Ref sig .tc := ⟨.hbm, 9, rfl⟩
abbrev main_call0_v3 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_v4 : Ref sig .tc := ⟨.hbm, 21, rfl⟩
abbrev main_call0_cst_1 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v0 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg8_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg5_1 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg8_1 : Ref sig .tc := ⟨.vmem, 55, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem8_1 : DmaSem sig := 29
abbrev cc2_sem0_0 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem5_1 : DmaSem sig := 40
abbrev cc2_sem6_0 : DmaSem sig := 41
abbrev cc2_sem7_0 : DmaSem sig := 42
abbrev cc2_sem8_0 : DmaSem sig := 43
abbrev cc2_sem8_1 : DmaSem sig := 44
abbrev cc3_sem0_0 : DmaSem sig := 45
abbrev cc3_sem1_0 : DmaSem sig := 46
abbrev cc3_sem1_1 : DmaSem sig := 47
abbrev cc3_sem2_0 : DmaSem sig := 48
abbrev cc3_sem2_1 : DmaSem sig := 49
abbrev cc3_sem3_0 : DmaSem sig := 50
abbrev cc3_sem3_1 : DmaSem sig := 51
abbrev cc3_sem4_0 : DmaSem sig := 52
abbrev cc3_sem4_1 : DmaSem sig := 53
abbrev cc3_sem5_0 : DmaSem sig := 54
abbrev cc3_sem5_1 : DmaSem sig := 55
abbrev cc3_sem6_0 : DmaSem sig := 56
abbrev cc3_sem7_0 : DmaSem sig := 57
abbrev cc3_sem8_0 : DmaSem sig := 58
abbrev cc3_sem8_1 : DmaSem sig := 59

abbrev nD : Nat := 1
abbrev τ : Topo := Topo.v7x

variable {F : FTy → Type} [FloatOps F]

abbrev grid0 : Pipeline.Grid := ⟨2, ![2, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 4], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 4], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc2_transform_2 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc2_transform_3 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .smem S2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x256x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x768 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x3072x768 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x3072x768 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x256x768 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 4], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, v0.toNat, c0_i32.toNat]

def cc3_transform_2 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, v0.toNat, c0_i32.toNat]

def cc3_transform_3 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, v0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .smem S2 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1x256x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256x768 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x4096x768 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x4096x768 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 1 → Memref sig .tc .vmem S768 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S768 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S1x256x768 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== KernelIdeal.lean ====
variable {F : FTy → Type} [FloatOps F] [Named F]
def κ : String → Option EReal := fun
  | "sqrt_two" => some ((Real.sqrt 2 : ℝ) : EReal)
  | _ => none
-- ==== ReferenceIdeal.lean ====
abbrev S2x4096x768 : Shape := ⟨3, ![2, 4096, 768]⟩
abbrev S768 : Shape := ⟨1, ![768]⟩
abbrev S_ : Shape := ⟨0, ![]⟩
abbrev S2x4096x4096 : Shape := ⟨3, ![2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S2x4096x8 : Shape := ⟨3, ![2, 4096, 8]⟩
abbrev S2 : Shape := ⟨1, ![2]⟩
abbrev S2x1x1 : Shape := ⟨3, ![2, 1, 1]⟩
abbrev S1x4096x1 : Shape := ⟨3, ![1, 4096, 1]⟩
abbrev S2x4096x8x1 : Shape := ⟨4, ![2, 4096, 8, 1]⟩
abbrev S2x4096x8x3 : Shape := ⟨4, ![2, 4096, 8, 3]⟩
abbrev S2x4096 : Shape := ⟨2, ![2, 4096]⟩
abbrev S2x4096x1 : Shape := ⟨3, ![2, 4096, 1]⟩
abbrev S1x1x768 : Shape := ⟨3, ![1, 1, 768]⟩

abbrev nBuf : Space → Nat
  | .hbm => 111
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S768, .f32⟩
  | .hbm, ⟨2, _⟩ => ⟨S768, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S1x4096x4096, .i1⟩
  | .hbm, ⟨32, _⟩ => ⟨S_, .f32⟩
  | .hbm, ⟨33, _⟩ => ⟨S2x4096x4096, .i1⟩
  | .hbm, ⟨34, _⟩ => ⟨S2x4096x4096, .f32⟩
  | .hbm, ⟨35, _⟩ => ⟨S2x4096x4096, .f32⟩
  | .hbm, ⟨36, _⟩ => ⟨S2x4096x8, .f32⟩
  | .hbm, ⟨37, _⟩ => ⟨S2x4096x8, .i32⟩
  | .hbm, ⟨38, _⟩ => ⟨S_, .f32⟩
  | .hbm, ⟨39, _⟩ => ⟨S2x4096x8, .f32⟩
  | .hbm, ⟨40, _⟩ => ⟨S2x4096x8, .i1⟩
  | .hbm, ⟨41, _⟩ => ⟨S2x4096x8, .f32⟩
  | .hbm, ⟨42, _⟩ => ⟨S_, .f32⟩
  | .hbm, ⟨43, _⟩ => ⟨S2x4096x4096, .f32⟩
  | .hbm, ⟨44, _⟩ => ⟨S2, .i32⟩
  | .hbm, ⟨45, _⟩ => ⟨S2x1x1, .i32⟩
  | .hbm, ⟨46, _⟩ => ⟨S4096, .i32⟩
  | .hbm, ⟨47, _⟩ => ⟨S1x4096x1, .i32⟩
  | .hbm, ⟨48, _⟩ => ⟨S_, .i32⟩
  | .hbm, ⟨49, _⟩ => ⟨S2x1x1, .i32⟩
  | .hbm, ⟨50, _⟩ => ⟨S2x1x1, .i1⟩
  | .hbm, ⟨51, _⟩ => ⟨S_, .i32⟩
  | .hbm, ⟨52, _⟩ => ⟨S2x1x1, .i32⟩
  | .hbm, ⟨53, _⟩ => ⟨S2x1x1, .i32⟩
  | .hbm, ⟨54, _⟩ => ⟨S2x1x1, .i32⟩
  | .hbm, ⟨55, _⟩ => ⟨S_, .i32⟩
  | .hbm, ⟨56, _⟩ => ⟨S1x4096x1, .i32⟩
  | .hbm, ⟨57, _⟩ => ⟨S1x4096x1, .i1⟩
  | .hbm, ⟨58, _⟩ => ⟨S_, .i32⟩
  | .hbm, ⟨59, _⟩ => ⟨S1x4096x1, .i32⟩
  | .hbm, ⟨60, _⟩ => ⟨S1x4096x1, .i32⟩
  | .hbm, ⟨61, _⟩ => ⟨S1x4096x1, .i32⟩
  | .hbm, ⟨62, _⟩ => ⟨S_, .i32⟩
  | .hbm, ⟨63, _⟩ => ⟨S2x4096x8, .i32⟩
  | .hbm, ⟨64, _⟩ => ⟨S2x4096x8, .i1⟩
  | .hbm, ⟨65, _⟩ => ⟨S_, .i32⟩
  | .hbm, ⟨66, _⟩ => ⟨S2x4096x8, .i32⟩
  | .hbm, ⟨67, _⟩ => ⟨S2x4096x8, .i32⟩
  | .hbm, ⟨68, _⟩ => ⟨S2x4096x8, .i32⟩
  | .hbm, ⟨69, _⟩ => ⟨S2x4096x8, .i32⟩
  | .hbm, ⟨70, _⟩ => ⟨S2x4096x8, .i32⟩
  | .hbm, ⟨71, _⟩ => ⟨S2x4096x8x1, .i32⟩
  | .hbm, ⟨72, _⟩ => ⟨S2x4096x8x1, .i32⟩
  | .hbm, ⟨73, _⟩ => ⟨S2x4096x8x1, .i32⟩
  | .hbm, ⟨74, _⟩ => ⟨S2x4096x8x3, .i32⟩
  | .hbm, ⟨75, _⟩ => ⟨S2x4096x4096, .f32⟩
  | .hbm, ⟨76, _⟩ => ⟨S_, .f32⟩
  | .hbm, ⟨77, _⟩ => ⟨S2x4096, .f32⟩
  | .hbm, ⟨78, _⟩ => ⟨S2x4096x1, .f32⟩
  | .hbm, ⟨79, _⟩ => ⟨S_, .f32⟩
  | .hbm, ⟨80, _⟩ => ⟨S_, .f32⟩
  | .hbm, ⟨81, _⟩ => ⟨S2x4096x1, .f32⟩
  | .hbm, ⟨82, _⟩ => ⟨S2x4096x1, .f32⟩
  | .hbm, ⟨83, _⟩ => ⟨S2x4096x768, .f32⟩
  | .hbm, ⟨84, _⟩ => ⟨S2x4096x768, .f32⟩
  | .hbm, ⟨85, _⟩ => ⟨S2x4096x768, .f32⟩
  | .hbm, ⟨86, _⟩ => ⟨S2x4096x768, .f32⟩
  | .hbm, ⟨87, _⟩ => ⟨S2x4096x768, .f32⟩
  | .hbm, ⟨88, _⟩ => ⟨S_, .f32⟩
  | .hbm, ⟨89, _⟩ => ⟨S_, .f32⟩
  | .hbm, ⟨90, _⟩ => ⟨S2x4096x768, .f32⟩
  | .hbm, ⟨91, _⟩ => ⟨S2x4096x768, .f32⟩
  | .hbm, ⟨92, _⟩ => ⟨S2x4096x768, .f32⟩
  | .hbm, ⟨93, _⟩ => ⟨S1x1x768, .f32⟩
  | .hbm, ⟨94, _⟩ => ⟨S2x4096x768, .f32⟩
  | .hbm, ⟨95, _⟩ => ⟨S2x4096x768, .f32⟩
  | .hbm, ⟨96, _⟩ => ⟨S1x1x768, .f32⟩
  | .hbm, ⟨97, _⟩ => ⟨S2x4096x768, .f32⟩
  | .hbm, ⟨98, _⟩ => ⟨S2x4096x768, .f32⟩
  | .hbm, ⟨99, _⟩ => ⟨S_, .f32⟩
  | .hbm, ⟨100, _⟩ => ⟨S2x4096x768, .f32⟩
  | .hbm, ⟨101, _⟩ => ⟨S2x4096x768, .f32⟩
  | .hbm, ⟨102, _⟩ => ⟨S2x4096x768, .f32⟩
  | .hbm, ⟨103, _⟩ => ⟨S_, .f32⟩
  | .hbm, ⟨104, _⟩ => ⟨S_, .f32⟩
  | .hbm, ⟨105, _⟩ => ⟨S2x4096x768, .f32⟩
  | .hbm, ⟨106, _⟩ => ⟨S2x4096x768, .f32⟩
  | .hbm, ⟨107, _⟩ => ⟨S2x4096x768, .f32⟩
  | .hbm, ⟨108, _⟩ => ⟨S2x4096x768, .f32⟩
  | .hbm, ⟨109, _⟩ => ⟨S2x4096x768, .f32⟩
  | .hbm, ⟨110, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v14 : Ref sig .tc := ⟨.hbm, 35, rfl⟩
abbrev main_values : Ref sig .tc := ⟨.hbm, 36, rfl⟩
abbrev main_indices : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_c_9 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_call2_v0 : Ref sig .tc := ⟨.hbm, 80, rfl⟩
abbrev main_call2_v1 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_12 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]
-- ==== Proof.IdealRunCommon.lean ====
/-
  What the four kernel regions of the program share: the resource algebra of the launch, a staging buffer held
  whole, and the thread state between two statements of @main.
-/
module

public import proofs.«01_k».proof.Proof.Gen.KernelIdeal.Launch
public import proofs.«01_k».proof.Proof.Gen.KernelIdeal.Regions
public import proofs.«01_k».proof.Proof.Gen.KernelIdeal.Skeleton
public import Idealize.ShloMosaic.Lib.Pipeline.FrameBody
public import Idealize.ShloMosaic.Lib.Pipeline.RegionsLoop
public import Idealize.ShloMosaic.Lib.Pipeline.ValueKit
public import Idealize.ShloMosaic.Lib.Pointwise
public import Idealize.ShloMosaic.Lib.Tactic

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the launch: the pipeline library's own. -/
abbrev UU : Type := UR sig nD τ

local notation "𝕄" => MT nD τ sig Unit (Elt F) ℕ UU ℕ

/-- The contents type of memref `M`'s buffer on core `c`, -/
abbrev Bf (c : Dev nD) {sp : Space} {S : Shape} {e : EltTy} (M : Memref sig .tc sp S e) : Type := Buf (Elt F) (M.view.loc (c : Thread nD τ))
/-- and that buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- A whole memref owned at `X` is its buffer held whole at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers between two statements: the core owes nothing. -/
abbrev Rest (c : Dev nD) : sProp 𝕄 := iprop(∃ W, owes (c : Thread nD τ) (0 : CellTallies nD τ sig Unit) W)

end Cert.KernelIdeal.Run

end
-- ==== Proof.IdealRegion0.lean ====
/-
  KERNEL REGION 0: the kernel's body at one grid point, run by the executor; the proof data of the region (every input
  window's buffer at the block the fetch stages there, the result's at `blk0` of them); and the library's body obligation.
-/
module

public import proofs.«01_k».proof.Proof.IdealRunCommon
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The block the kernel of region 0 stores at grid point `i`, from the blocks staged for its eight inputs. -/
noncomputable def blk0 (i : grid0.Coords) (x0 : Vec F S2 .f32) (x1 : Vec F S1x256x768 .f32) (x2 x3 : Vec F S1x256x768 .bf16)
    (x4 x5 : Vec F S1x1024x768 .bf16) (x6 x7 : Vec F S768 .f32) : FVec F S1x256x768 .f32 :=
  k0_pay1 (k0_pay2 x1) (k0_pay6 (k0_pay3 x4) (k0_pay4 i x2 x3 x4 x5) (k0_pay5 i x2 x3 x4 x5))
    (Scalar.addi 0#32 (Scalar.muli (BitVec.ofNat 32 (i 1).val) 256#32)) (x0 (ix1 0)) (x0 (ix1 1)) x6 x7

/-- What the body leaves in the result's staging buffer over the eight inputs' contents, WITH the proof that from the
    nine staging buffers held whole the kernel runs to its return, the inputs handed back as they were. -/
noncomputable def run0 (c : Dev nD) (i : grid0.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x1024x768 .bf16) (h4 : M4.IsWhole) (M5 : Memref sig .tc .vmem S1x1024x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    { W : Bf (F := F) c M8 // ∀ (f8 : Bf (F := F) c M8) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8
          ∗ (iprop(pt c M0 f0 ∗ pt c M1 f1 ∗ pt c M2 f2 ∗ pt c M3 f3 ∗ pt c M4 f4 ∗ pt c M5 f5 ∗ pt c M6 f6 ∗ pt c M7 f7 ∗ pt c M8 W) -∗ Q ⟨⟩))
          ⊢ wp frame (wpE (defs₀ (F := F)) Variants.none c none) E (cc0__dgn_kernel i M0 h0 M1 h1 M2 h2 M3 h3 M4 h4 M5 h5 M6 h6 M7 h7 M8 h8) Q } := by
  refine ⟨?_, fun f8 E Q => ?run⟩
  case run =>
    rw [cc0__dgn_kernel_eq_skeleton]
    unfold cc0__dgn_kernel_skel
    rw [k0_part1_eq_skeleton, k0_part2_eq_skeleton]
    unfold k0_part1_skel k0_part2_skel
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- Read, that is the block `blk0` of the inputs read. -/
theorem run0_val (c : Dev nD) (i : grid0.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x1024x768 .bf16) (h4 : M4.IsWhole) (M5 : Memref sig .tc .vmem S1x1024x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    M8.view.read (Elt F) (run0 c i M0 h0 M1 h1 M2 h2 M3 h3 M4 h4 M5 h5 M6 h6 M7 h7 M8 h8 f0 f1 f2 f3 f4 f5 f6 f7).1 =
      blk0 i (M0.view.read (Elt F) f0) (M1.view.read (Elt F) f1) (M2.view.read (Elt F) f2) (M3.view.read (Elt F) f3) (M4.view.read (Elt F) f4)
        (M5.view.read (Elt F) f5) (M6.view.read (Elt F) f6) (M7.view.read (Elt F) f7) := by
  dsimp only [run0]
  rw [View.read_writes_junk_eq_canon]
  unfold run0.sl.H8_1 run0.sl.v77 run0.sl.r run0.sl.r_1
  rw [View.canon_cons_unit_lit _ _ _ (by decide)]
  unfold blk0
  simp only [View.readAt_eq_ld]
  rw [View.ld_unit_lit _ (M1.view.read (Elt F) f1) (by decide), View.ld_unit_lit _ (M2.view.read (Elt F) f2) (by decide), View.ld_unit_lit _ (M3.view.read (Elt F) f3) (by decide), View.ld_unit_lit _ (M4.view.read (Elt F) f4) (by decide), View.ld_unit_lit _ (M5.view.read (Elt F) f5) (by decide), View.ld_unit_lit _ (M6.view.read (Elt F) f6) (by decide), View.ld_unit_lit _ (M7.view.read (Elt F) f7) (by decide)]
  congr 1
  · show M0.view.read (Elt F) f0 _ = M0.view.read (Elt F) f0 _
    congr 1; funext a; fin_cases a; rfl
  · show M0.view.read (Elt F) f0 _ = M0.view.read (Elt F) f0 _
    congr 1; funext a; fin_cases a; rfl

/-- The run with every staging buffer owned at what it reads. -/
theorem run0_owns (c : Dev nD) (i : grid0.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x1024x768 .bf16) (h4 : M4.IsWhole) (M5 : Memref sig .tc .vmem S1x1024x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (X0 : Vec F S2 .f32) (X1 : Vec F S1x256x768 .f32) (X2 X3 : Vec F S1x256x768 .bf16)
    (X4 X5 : Vec F S1x1024x768 .bf16) (X6 X7 : Vec F S768 .f32) (X8 : Vec F S1x256x768 .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗
        (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (blk0 i X0 X1 X2 X3 X4 X5 X6 X7)) -∗ Q ⟨⟩))
      ⊢ wp frame (wpE (defs₀ (F := F)) Variants.none c none) E (cc0__dgn_kernel i M0 h0 M1 h1 M2 h2 M3 h3 M4 h4 M5 h5 M6 h6 M7 h7 M8 h8) Q := by
  simp only [owns_pt c M0 h0, owns_pt c M1 h1, owns_pt c M2 h2, owns_pt c M3 h3, owns_pt c M4 h4, owns_pt c M5 h5, owns_pt c M6 h6, owns_pt c M7 h7, owns_pt c M8 h8]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, Hk⟩
  iapply ((run0 c i M0 h0 M1 h1 M2 h2 M3 h3 M4 h4 M5 h5 M6 h6 M7 h7 M8 h8 f0 f1 f2 f3 f4 f5 f6 f7).2 f8 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  iexists _; isplitr; swap; (· iexact H8); ipureintro
  rw [run0_val, hf0, hf1, hf2, hf3, hf4, hf5, hf6, hf7]

/-! ### The proof data -/

variable (V : (c : Dev nD) → Valuation τ sig (Elt F))

/-- The block of input window `w` at point `t`: its array at the entry valuation, read through the window's block view. -/
abbrev stg0 (c : Dev nD) (w : Fin 9) (t : Fin cfg0.N) : ((cfg0.win w).xblock (cfg0.grid.coords t)).Idx → Elt F (cfg0.win w).elt :=
  ((cfg0.win w).blk t).view.read (Elt F) (V c (Pipeline.arrRef spec0 w))

/-- The block the body leaves at point `t`. -/
abbrev out0 (c : Dev nD) (t : Fin cfg0.N) : FVec F S1x256x768 .f32 :=
  blk0 (grid0.coords t) (stg0 V c 0 t) (stg0 V c 1 t) (stg0 V c 2 t) (stg0 V c 3 t) (stg0 V c 4 t) (stg0 V c 5 t) (stg0 V c 6 t) (stg0 V c 7 t)

/-- The proof data of the region entered from valuation `V`: the arrays at `V`; after the body each input's buffer as
    fetched and the result's at `out0`; the scoped rest as invariant; nothing owed; each input a read share of its array. -/
def dat0 (c : Dev nD) : Dat τ (Elt F) Unit ℕ UU ℕ cfg0 c where
  A w := V c (Pipeline.arrRef spec0 w)
  after w t := match w with
    | ⟨0, _⟩ => stg0 V c 0 t
    | ⟨1, _⟩ => stg0 V c 1 t
    | ⟨2, _⟩ => stg0 V c 2 t
    | ⟨3, _⟩ => stg0 V c 3 t
    | ⟨4, _⟩ => stg0 V c 4 t
    | ⟨5, _⟩ => stg0 V c 5 t
    | ⟨6, _⟩ => stg0 V c 6 t
    | ⟨7, _⟩ => stg0 V c 7 t
    | ⟨8, _⟩ => out0 V c t
  Φ _ := Pipeline.scopedRest (Ix := Unit) (Name := ℕ) (U := UU) (Lvl := ℕ) (Val := Elt F) spec0 c
  q w := Pipeline.shareOf spec0 w
  owed _ := 0

/-- An input window's buffer holds its block whenever the body runs. -/
theorem before0_0 (c : Dev nD) (t : Fin cfg0.N) (d : (cfg0.win 0).block.Idx → Elt F (cfg0.win 0).elt) :
    (dat0 V c).before 0 t d = stg0 V c 0 t :=
  ((dat0 V c).before_in_eq_fetched 0 rfl (fun _ => rfl) (fun _ _ _ => rfl) (fun _ => rfl) t d).trans rfl
theorem before0_1 (c : Dev nD) (t : Fin cfg0.N) (d : (cfg0.win 1).block.Idx → Elt F (cfg0.win 1).elt) :
    (dat0 V c).before 1 t d = stg0 V c 1 t :=
  ((dat0 V c).before_in_eq_fetched 1 rfl (fun _ => rfl) (fun _ _ _ => rfl) (fun _ => rfl) t d).trans rfl
theorem before0_2 (c : Dev nD) (t : Fin cfg0.N) (d : (cfg0.win 2).block.Idx → Elt F (cfg0.win 2).elt) :
    (dat0 V c).before 2 t d = stg0 V c 2 t :=
  ((dat0 V c).before_in_eq_fetched 2 rfl (fun _ => rfl) (fun _ _ _ => rfl) (fun _ => rfl) t d).trans rfl
theorem before0_3 (c : Dev nD) (t : Fin cfg0.N) (d : (cfg0.win 3).block.Idx → Elt F (cfg0.win 3).elt) :
    (dat0 V c).before 3 t d = stg0 V c 3 t :=
  ((dat0 V c).before_in_eq_fetched 3 rfl (fun _ => rfl) (fun _ _ _ => rfl) (fun _ => rfl) t d).trans rfl
theorem before0_4 (c : Dev nD) (t : Fin cfg0.N) (d : (cfg0.win 4).block.Idx → Elt F (cfg0.win 4).elt) :
    (dat0 V c).before 4 t d = stg0 V c 4 t :=
  ((dat0 V c).before_in_eq_fetched 4 rfl (fun _ => rfl) (fun _ _ _ => rfl) (fun _ => rfl) t d).trans rfl
theorem before0_5 (c : Dev nD) (t : Fin cfg0.N) (d : (cfg0.win 5).block.Idx → Elt F (cfg0.win 5).elt) :
    (dat0 V c).before 5 t d = stg0 V c 5 t :=
  ((dat0 V c).before_in_eq_fetched 5 rfl (fun _ => rfl) (fun _ _ _ => rfl) (fun _ => rfl) t d).trans rfl
theorem before0_6 (c : Dev nD) (t : Fin cfg0.N) (d : (cfg0.win 6).block.Idx → Elt F (cfg0.win 6).elt) :
    (dat0 V c).before 6 t d = stg0 V c 6 t :=
  ((dat0 V c).before_in_eq_fetched 6 rfl (fun _ => rfl) (fun _ _ _ => rfl) (fun _ => rfl) t d).trans rfl
theorem before0_7 (c : Dev nD) (t : Fin cfg0.N) (d : (cfg0.win 7).block.Idx → Elt F (cfg0.win 7).elt) :
    (dat0 V c).before 7 t d = stg0 V c 7 t :=
  ((dat0 V c).before_in_eq_fetched 7 rfl (fun _ => rfl) (fun _ _ _ => rfl) (fun _ => rfl) t d).trans rfl

/-- The library's body obligation: the staging buffers taken apart, the run applied, its post reassembled. -/
theorem body_obligation0 (c : Dev nD) : BodyObligation (dat0 V c) (defs₀ (F := F)) 𝒱₀ () Set.univ := fun t => by
  rw [bigSep_W0, bigSep_W0]
  simp only [before0_0, before0_1, before0_2, before0_3, before0_4, before0_5, before0_6, before0_7]
  rw [show (dat0 V c).Φ t.succ = (dat0 V c).Φ t.castSucc from rfl, show (dat0 V c).owesAt () t.succ = (dat0 V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run0_owns c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Run

end
-- ==== Proof.IdealRegion1.lean ====
/-
  KERNEL REGION 1: the kernel's body at one grid point, run by the executor; the proof data of the region (every input
  window's buffer at the block the fetch stages there, the result's at `blk1` of them); and the library's body obligation.
-/
module

public import proofs.«01_k».proof.Proof.IdealRunCommon
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The block the kernel of region 1 stores at grid point `i`, from the blocks staged for its eight inputs. -/
noncomputable def blk1 (i : grid1.Coords) (x0 : Vec F S2 .f32) (x1 : Vec F S1x256x768 .f32) (x2 x3 : Vec F S1x256x768 .bf16)
    (x4 x5 : Vec F S1x2048x768 .bf16) (x6 x7 : Vec F S768 .f32) : FVec F S1x256x768 .f32 :=
  k1_pay1 (k1_pay2 x1) (k1_pay6 (k1_pay3 x4) (k1_pay4 i x2 x3 x4 x5) (k1_pay5 i x2 x3 x4 x5))
    (Scalar.addi 1024#32 (Scalar.muli (BitVec.ofNat 32 (i 1).val) 256#32)) (x0 (ix1 0)) (x0 (ix1 1)) x6 x7

/-- What the body leaves in the result's staging buffer over the eight inputs' contents, WITH the proof that from the
    nine staging buffers held whole the kernel runs to its return, the inputs handed back as they were. -/
noncomputable def run1 (c : Dev nD) (i : grid1.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x2048x768 .bf16) (h4 : M4.IsWhole) (M5 : Memref sig .tc .vmem S1x2048x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    { W : Bf (F := F) c M8 // ∀ (f8 : Bf (F := F) c M8) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8
          ∗ (iprop(pt c M0 f0 ∗ pt c M1 f1 ∗ pt c M2 f2 ∗ pt c M3 f3 ∗ pt c M4 f4 ∗ pt c M5 f5 ∗ pt c M6 f6 ∗ pt c M7 f7 ∗ pt c M8 W) -∗ Q ⟨⟩))
          ⊢ wp frame (wpE (defs₀ (F := F)) Variants.none c none) E (cc1__dgn_kernel i M0 h0 M1 h1 M2 h2 M3 h3 M4 h4 M5 h5 M6 h6 M7 h7 M8 h8) Q } := by
  refine ⟨?_, fun f8 E Q => ?run⟩
  case run =>
    rw [cc1__dgn_kernel_eq_skeleton]
    unfold cc1__dgn_kernel_skel
    rw [k1_part1_eq_skeleton, k1_part2_eq_skeleton]
    unfold k1_part1_skel k1_part2_skel
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- Read, that is the block `blk1` of the inputs read. -/
theorem run1_val (c : Dev nD) (i : grid1.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x2048x768 .bf16) (h4 : M4.IsWhole) (M5 : Memref sig .tc .vmem S1x2048x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    M8.view.read (Elt F) (run1 c i M0 h0 M1 h1 M2 h2 M3 h3 M4 h4 M5 h5 M6 h6 M7 h7 M8 h8 f0 f1 f2 f3 f4 f5 f6 f7).1 =
      blk1 i (M0.view.read (Elt F) f0) (M1.view.read (Elt F) f1) (M2.view.read (Elt F) f2) (M3.view.read (Elt F) f3) (M4.view.read (Elt F) f4)
        (M5.view.read (Elt F) f5) (M6.view.read (Elt F) f6) (M7.view.read (Elt F) f7) := by
  dsimp only [run1]
  rw [View.read_writes_junk_eq_canon]
  unfold run1.sl.H8_1 run1.sl.v77 run1.sl.r run1.sl.r_1
  rw [View.canon_cons_unit_lit _ _ _ (by decide)]
  unfold blk1
  simp only [View.readAt_eq_ld]
  rw [View.ld_unit_lit _ (M1.view.read (Elt F) f1) (by decide), View.ld_unit_lit _ (M2.view.read (Elt F) f2) (by decide), View.ld_unit_lit _ (M3.view.read (Elt F) f3) (by decide), View.ld_unit_lit _ (M4.view.read (Elt F) f4) (by decide), View.ld_unit_lit _ (M5.view.read (Elt F) f5) (by decide), View.ld_unit_lit _ (M6.view.read (Elt F) f6) (by decide), View.ld_unit_lit _ (M7.view.read (Elt F) f7) (by decide)]
  congr 1
  · show M0.view.read (Elt F) f0 _ = M0.view.read (Elt F) f0 _
    congr 1; funext a; fin_cases a; rfl
  · show M0.view.read (Elt F) f0 _ = M0.view.read (Elt F) f0 _
    congr 1; funext a; fin_cases a; rfl

/-- The run with every staging buffer owned at what it reads. -/
theorem run1_owns (c : Dev nD) (i : grid1.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x2048x768 .bf16) (h4 : M4.IsWhole) (M5 : Memref sig .tc .vmem S1x2048x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (X0 : Vec F S2 .f32) (X1 : Vec F S1x256x768 .f32) (X2 X3 : Vec F S1x256x768 .bf16)
    (X4 X5 : Vec F S1x2048x768 .bf16) (X6 X7 : Vec F S768 .f32) (X8 : Vec F S1x256x768 .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗
        (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (blk1 i X0 X1 X2 X3 X4 X5 X6 X7)) -∗ Q ⟨⟩))
      ⊢ wp frame (wpE (defs₀ (F := F)) Variants.none c none) E (cc1__dgn_kernel i M0 h0 M1 h1 M2 h2 M3 h3 M4 h4 M5 h5 M6 h6 M7 h7 M8 h8) Q := by
  simp only [owns_pt c M0 h0, owns_pt c M1 h1, owns_pt c M2 h2, owns_pt c M3 h3, owns_pt c M4 h4, owns_pt c M5 h5, owns_pt c M6 h6, owns_pt c M7 h7, owns_pt c M8 h8]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, Hk⟩
  iapply ((run1 c i M0 h0 M1 h1 M2 h2 M3 h3 M4 h4 M5 h5 M6 h6 M7 h7 M8 h8 f0 f1 f2 f3 f4 f5 f6 f7).2 f8 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  iexists _; isplitr; swap; (· iexact H8); ipureintro
  rw [run1_val, hf0, hf1, hf2, hf3, hf4, hf5, hf6, hf7]

/-! ### The proof data -/

variable (V : (c : Dev nD) → Valuation τ sig (Elt F))

/-- The block of input window `w` at point `t`: its array at the entry valuation, read through the window's block view. -/
abbrev stg1 (c : Dev nD) (w : Fin 9) (t : Fin cfg1.N) : ((cfg1.win w).xblock (cfg1.grid.coords t)).Idx → Elt F (cfg1.win w).elt :=
  ((cfg1.win w).blk t).view.read (Elt F) (V c (Pipeline.arrRef spec1 w))

/-- The block the body leaves at point `t`. -/
abbrev out1 (c : Dev nD) (t : Fin cfg1.N) : FVec F S1x256x768 .f32 :=
  blk1 (grid1.coords t) (stg1 V c 0 t) (stg1 V c 1 t) (stg1 V c 2 t) (stg1 V c 3 t) (stg1 V c 4 t) (stg1 V c 5 t) (stg1 V c 6 t) (stg1 V c 7 t)

/-- The proof data of the region entered from valuation `V`: the arrays at `V`; after the body each input's buffer as
    fetched and the result's at `out1`; the scoped rest as invariant; nothing owed; each input a read share of its array. -/
def dat1 (c : Dev nD) : Dat τ (Elt F) Unit ℕ UU ℕ cfg1 c where
  A w := V c (Pipeline.arrRef spec1 w)
  after w t := match w with
    | ⟨0, _⟩ => stg1 V c 0 t
    | ⟨1, _⟩ => stg1 V c 1 t
    | ⟨2, _⟩ => stg1 V c 2 t
    | ⟨3, _⟩ => stg1 V c 3 t
    | ⟨4, _⟩ => stg1 V c 4 t
    | ⟨5, _⟩ => stg1 V c 5 t
    | ⟨6, _⟩ => stg1 V c 6 t
    | ⟨7, _⟩ => stg1 V c 7 t
    | ⟨8, _⟩ => out1 V c t
  Φ _ := Pipeline.scopedRest (Ix := Unit) (Name := ℕ) (U := UU) (Lvl := ℕ) (Val := Elt F) spec1 c
  q w := Pipeline.shareOf spec1 w
  owed _ := 0

/-- An input window's buffer holds its block whenever the body runs. -/
theorem before1_0 (c : Dev nD) (t : Fin cfg1.N) (d : (cfg1.win 0).block.Idx → Elt F (cfg1.win 0).elt) :
    (dat1 V c).before 0 t d = stg1 V c 0 t :=
  ((dat1 V c).before_in_eq_fetched 0 rfl (fun _ => rfl) (fun _ _ _ => rfl) (fun _ => rfl) t d).trans rfl
theorem before1_1 (c : Dev nD) (t : Fin cfg1.N) (d : (cfg1.win 1).block.Idx → Elt F (cfg1.win 1).elt) :
    (dat1 V c).before 1 t d = stg1 V c 1 t :=
  ((dat1 V c).before_in_eq_fetched 1 rfl (fun _ => rfl) (fun _ _ _ => rfl) (fun _ => rfl) t d).trans rfl
theorem before1_2 (c : Dev nD) (t : Fin cfg1.N) (d : (cfg1.win 2).block.Idx → Elt F (cfg1.win 2).elt) :
    (dat1 V c).before 2 t d = stg1 V c 2 t :=
  ((dat1 V c).before_in_eq_fetched 2 rfl (fun _ => rfl) (fun _ _ _ => rfl) (fun _ => rfl) t d).trans rfl
theorem before1_3 (c : Dev nD) (t : Fin cfg1.N) (d : (cfg1.win 3).block.Idx → Elt F (cfg1.win 3).elt) :
    (dat1 V c).before 3 t d = stg1 V c 3 t :=
  ((dat1 V c).before_in_eq_fetched 3 rfl (fun _ => rfl) (fun _ _ _ => rfl) (fun _ => rfl) t d).trans rfl
theorem before1_4 (c : Dev nD) (t : Fin cfg1.N) (d : (cfg1.win 4).block.Idx → Elt F (cfg1.win 4).elt) :
    (dat1 V c).before 4 t d = stg1 V c 4 t :=
  ((dat1 V c).before_in_eq_fetched 4 rfl (fun _ => rfl) (fun _ _ _ => rfl) (fun _ => rfl) t d).trans rfl
theorem before1_5 (c : Dev nD) (t : Fin cfg1.N) (d : (cfg1.win 5).block.Idx → Elt F (cfg1.win 5).elt) :
    (dat1 V c).before 5 t d = stg1 V c 5 t :=
  ((dat1 V c).before_in_eq_fetched 5 rfl (fun _ => rfl) (fun _ _ _ => rfl) (fun _ => rfl) t d).trans rfl
theorem before1_6 (c : Dev nD) (t : Fin cfg1.N) (d : (cfg1.win 6).block.Idx → Elt F (cfg1.win 6).elt) :
    (dat1 V c).before 6 t d = stg1 V c 6 t :=
  ((dat1 V c).before_in_eq_fetched 6 rfl (fun _ => rfl) (fun _ _ _ => rfl) (fun _ => rfl) t d).trans rfl
theorem before1_7 (c : Dev nD) (t : Fin cfg1.N) (d : (cfg1.win 7).block.Idx → Elt F (cfg1.win 7).elt) :
    (dat1 V c).before 7 t d = stg1 V c 7 t :=
  ((dat1 V c).before_in_eq_fetched 7 rfl (fun _ => rfl) (fun _ _ _ => rfl) (fun _ => rfl) t d).trans rfl

/-- The library's body obligation: the staging buffers taken apart, the run applied, its post reassembled. -/
theorem body_obligation1 (c : Dev nD) : BodyObligation (dat1 V c) (defs₀ (F := F)) 𝒱₀ () Set.univ := fun t => by
  rw [bigSep_W1, bigSep_W1]
  simp only [before1_0, before1_1, before1_2, before1_3, before1_4, before1_5, before1_6, before1_7]
  rw [show (dat1 V c).Φ t.succ = (dat1 V c).Φ t.castSucc from rfl, show (dat1 V c).owesAt () t.succ = (dat1 V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1_owns c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Run

end
-- ==== Proof.IdealRegion2.lean ====
/-
  KERNEL REGION 2: the kernel's body at one grid point, run by the executor; the proof data of the region (every input
  window's buffer at the block the fetch stages there, the result's at `blk2` of them); and the library's body obligation.
-/
module

public import proofs.«01_k».proof.Proof.IdealRunCommon
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The block the kernel of region 2 stores at grid point `i`, from the blocks staged for its eight inputs. -/
noncomputable def blk2 (i : grid2.Coords) (x0 : Vec F S2 .f32) (x1 : Vec F S1x256x768 .f32) (x2 x3 : Vec F S1x256x768 .bf16)
    (x4 x5 : Vec F S1x3072x768 .bf16) (x6 x7 : Vec F S768 .f32) : FVec F S1x256x768 .f32 :=
  k2_pay1 (k2_pay2 x1) (k2_pay6 (k2_pay3 x4) (k2_pay4 i x2 x3 x4 x5) (k2_pay5 i x2 x3 x4 x5))
    (Scalar.addi 2048#32 (Scalar.muli (BitVec.ofNat 32 (i 1).val) 256#32)) (x0 (ix1 0)) (x0 (ix1 1)) x6 x7

/-- What the body leaves in the result's staging buffer over the eight inputs' contents, WITH the proof that from the
    nine staging buffers held whole the kernel runs to its return, the inputs handed back as they were. -/
noncomputable def run2 (c : Dev nD) (i : grid2.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x3072x768 .bf16) (h4 : M4.IsWhole) (M5 : Memref sig .tc .vmem S1x3072x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    { W : Bf (F := F) c M8 // ∀ (f8 : Bf (F := F) c M8) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8
          ∗ (iprop(pt c M0 f0 ∗ pt c M1 f1 ∗ pt c M2 f2 ∗ pt c M3 f3 ∗ pt c M4 f4 ∗ pt c M5 f5 ∗ pt c M6 f6 ∗ pt c M7 f7 ∗ pt c M8 W) -∗ Q ⟨⟩))
          ⊢ wp frame (wpE (defs₀ (F := F)) Variants.none c none) E (cc2__dgn_kernel i M0 h0 M1 h1 M2 h2 M3 h3 M4 h4 M5 h5 M6 h6 M7 h7 M8 h8) Q } := by
  refine ⟨?_, fun f8 E Q => ?run⟩
  case run =>
    rw [cc2__dgn_kernel_eq_skeleton]
    unfold cc2__dgn_kernel_skel
    rw [k2_part1_eq_skeleton, k2_part2_eq_skeleton]
    unfold k2_part1_skel k2_part2_skel
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- Read, that is the block `blk2` of the inputs read. -/
theorem run2_val (c : Dev nD) (i : grid2.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x3072x768 .bf16) (h4 : M4.IsWhole) (M5 : Memref sig .tc .vmem S1x3072x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    M8.view.read (Elt F) (run2 c i M0 h0 M1 h1 M2 h2 M3 h3 M4 h4 M5 h5 M6 h6 M7 h7 M8 h8 f0 f1 f2 f3 f4 f5 f6 f7).1 =
      blk2 i (M0.view.read (Elt F) f0) (M1.view.read (Elt F) f1) (M2.view.read (Elt F) f2) (M3.view.read (Elt F) f3) (M4.view.read (Elt F) f4)
        (M5.view.read (Elt F) f5) (M6.view.read (Elt F) f6) (M7.view.read (Elt F) f7) := by
  dsimp only [run2]
  rw [View.read_writes_junk_eq_canon]
  unfold run2.sl.H8_1 run2.sl.v77 run2.sl.r run2.sl.r_1
  rw [View.canon_cons_unit_lit _ _ _ (by decide)]
  unfold blk2
  simp only [View.readAt_eq_ld]
  rw [View.ld_unit_lit _ (M1.view.read (Elt F) f1) (by decide), View.ld_unit_lit _ (M2.view.read (Elt F) f2) (by decide), View.ld_unit_lit _ (M3.view.read (Elt F) f3) (by decide), View.ld_unit_lit _ (M4.view.read (Elt F) f4) (by decide), View.ld_unit_lit _ (M5.view.read (Elt F) f5) (by decide), View.ld_unit_lit _ (M6.view.read (Elt F) f6) (by decide), View.ld_unit_lit _ (M7.view.read (Elt F) f7) (by decide)]
  congr 1
  · show M0.view.read (Elt F) f0 _ = M0.view.read (Elt F) f0 _
    congr 1; funext a; fin_cases a; rfl
  · show M0.view.read (Elt F) f0 _ = M0.view.read (Elt F) f0 _
    congr 1; funext a; fin_cases a; rfl

/-- The run with every staging buffer owned at what it reads. -/
theorem run2_owns (c : Dev nD) (i : grid2.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x3072x768 .bf16) (h4 : M4.IsWhole) (M5 : Memref sig .tc .vmem S1x3072x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (X0 : Vec F S2 .f32) (X1 : Vec F S1x256x768 .f32) (X2 X3 : Vec F S1x256x768 .bf16)
    (X4 X5 : Vec F S1x3072x768 .bf16) (X6 X7 : Vec F S768 .f32) (X8 : Vec F S1x256x768 .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗
        (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (blk2 i X0 X1 X2 X3 X4 X5 X6 X7)) -∗ Q ⟨⟩))
      ⊢ wp frame (wpE (defs₀ (F := F)) Variants.none c none) E (cc2__dgn_kernel i M0 h0 M1 h1 M2 h2 M3 h3 M4 h4 M5 h5 M6 h6 M7 h7 M8 h8) Q := by
  simp only [owns_pt c M0 h0, owns_pt c M1 h1, owns_pt c M2 h2, owns_pt c M3 h3, owns_pt c M4 h4, owns_pt c M5 h5, owns_pt c M6 h6, owns_pt c M7 h7, owns_pt c M8 h8]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, Hk⟩
  iapply ((run2 c i M0 h0 M1 h1 M2 h2 M3 h3 M4 h4 M5 h5 M6 h6 M7 h7 M8 h8 f0 f1 f2 f3 f4 f5 f6 f7).2 f8 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  iexists _; isplitr; swap; (· iexact H8); ipureintro
  rw [run2_val, hf0, hf1, hf2, hf3, hf4, hf5, hf6, hf7]

/-! ### The proof data -/

variable (V : (c : Dev nD) → Valuation τ sig (Elt F))

/-- The block of input window `w` at point `t`: its array at the entry valuation, read through the window's block view. -/
abbrev stg2 (c : Dev nD) (w : Fin 9) (t : Fin cfg2.N) : ((cfg2.win w).xblock (cfg2.grid.coords t)).Idx → Elt F (cfg2.win w).elt :=
  ((cfg2.win w).blk t).view.read (Elt F) (V c (Pipeline.arrRef spec2 w))

/-- Windows 4 and 5 have blocks of 3072 rows, which do not tile the 4096 rows of their arrays; the one block of each batch
    is inside the array, so nothing is cut, -/
theorem clip2_4 (t : Fin cfg2.N) : ∀ a, (cfg2.win 4).clip (cfg2.grid.coords t) a = none := by
  rcases fin_N2 t with h | h | h | h | h | h | h | h <;> rw [h] <;> decide +kernel
theorem clip2_5 (t : Fin cfg2.N) : ∀ a, (cfg2.win 5).clip (cfg2.grid.coords t) a = none := by
  rcases fin_N2 t with h | h | h | h | h | h | h | h <;> rw [h] <;> decide +kernel
/-- and the buffer is filled by the block. -/
abbrev stgc2 (c : Dev nD) (w : Fin 9) (t : Fin cfg2.N) : (cfg2.win w).block.Idx → Elt F (cfg2.win w).elt :=
  (cfg2.win w).fill (cfg2.grid.coords t) (fun _ => Classical.arbitrary _) (stg2 V c w t)

/-- The block the body leaves at point `t`. -/
abbrev out2 (c : Dev nD) (t : Fin cfg2.N) : FVec F S1x256x768 .f32 :=
  blk2 (grid2.coords t) (stg2 V c 0 t) (stg2 V c 1 t) (stg2 V c 2 t) (stg2 V c 3 t) (stgc2 V c 4 t) (stgc2 V c 5 t) (stg2 V c 6 t) (stg2 V c 7 t)

/-- The proof data of the region entered from valuation `V`: the arrays at `V`; after the body each input's buffer as
    fetched and the result's at `out2`; the scoped rest as invariant; nothing owed; each input a read share of its array. -/
def dat2 (c : Dev nD) : Dat τ (Elt F) Unit ℕ UU ℕ cfg2 c where
  A w := V c (Pipeline.arrRef spec2 w)
  after w t := match w with
    | ⟨0, _⟩ => stg2 V c 0 t
    | ⟨1, _⟩ => stg2 V c 1 t
    | ⟨2, _⟩ => stg2 V c 2 t
    | ⟨3, _⟩ => stg2 V c 3 t
    | ⟨4, _⟩ => stgc2 V c 4 t
    | ⟨5, _⟩ => stgc2 V c 5 t
    | ⟨6, _⟩ => stg2 V c 6 t
    | ⟨7, _⟩ => stg2 V c 7 t
    | ⟨8, _⟩ => out2 V c t
  Φ _ := Pipeline.scopedRest (Ix := Unit) (Name := ℕ) (U := UU) (Lvl := ℕ) (Val := Elt F) spec2 c
  q w := Pipeline.shareOf spec2 w
  owed _ := 0

/-- An input window's buffer holds its block whenever the body runs. -/
theorem before2_0 (c : Dev nD) (t : Fin cfg2.N) (d : (cfg2.win 0).block.Idx → Elt F (cfg2.win 0).elt) :
    (dat2 V c).before 0 t d = stg2 V c 0 t :=
  ((dat2 V c).before_in_eq_fetched 0 rfl (fun _ => rfl) (fun _ _ _ => rfl) (fun _ => rfl) t d).trans rfl
theorem before2_1 (c : Dev nD) (t : Fin cfg2.N) (d : (cfg2.win 1).block.Idx → Elt F (cfg2.win 1).elt) :
    (dat2 V c).before 1 t d = stg2 V c 1 t :=
  ((dat2 V c).before_in_eq_fetched 1 rfl (fun _ => rfl) (fun _ _ _ => rfl) (fun _ => rfl) t d).trans rfl
theorem before2_2 (c : Dev nD) (t : Fin cfg2.N) (d : (cfg2.win 2).block.Idx → Elt F (cfg2.win 2).elt) :
    (dat2 V c).before 2 t d = stg2 V c 2 t :=
  ((dat2 V c).before_in_eq_fetched 2 rfl (fun _ => rfl) (fun _ _ _ => rfl) (fun _ => rfl) t d).trans rfl
theorem before2_3 (c : Dev nD) (t : Fin cfg2.N) (d : (cfg2.win 3).block.Idx → Elt F (cfg2.win 3).elt) :
    (dat2 V c).before 3 t d = stg2 V c 3 t :=
  ((dat2 V c).before_in_eq_fetched 3 rfl (fun _ => rfl) (fun _ _ _ => rfl) (fun _ => rfl) t d).trans rfl
theorem before2_4 (c : Dev nD) (t : Fin cfg2.N) (d : (cfg2.win 4).block.Idx → Elt F (cfg2.win 4).elt) :
    (dat2 V c).before 4 t d = stgc2 V c 4 t :=
  ((dat2 V c).before_in_eq_fetched 4 rfl (fun _ => rfl)
      (fun t t' _ => funext fun a => (clip2_4 t a).trans (clip2_4 t' a).symm)
      (fun t => (cfg2.win 4).cut_fill _ _ _) t d).trans ((dat2 V c).fetched_of_clip_none 4 t (clip2_4 t) d _)
theorem before2_5 (c : Dev nD) (t : Fin cfg2.N) (d : (cfg2.win 5).block.Idx → Elt F (cfg2.win 5).elt) :
    (dat2 V c).before 5 t d = stgc2 V c 5 t :=
  ((dat2 V c).before_in_eq_fetched 5 rfl (fun _ => rfl)
      (fun t t' _ => funext fun a => (clip2_5 t a).trans (clip2_5 t' a).symm)
      (fun t => (cfg2.win 5).cut_fill _ _ _) t d).trans ((dat2 V c).fetched_of_clip_none 5 t (clip2_5 t) d _)
theorem before2_6 (c : Dev nD) (t : Fin cfg2.N) (d : (cfg2.win 6).block.Idx → Elt F (cfg2.win 6).elt) :
    (dat2 V c).before 6 t d = stg2 V c 6 t :=
  ((dat2 V c).before_in_eq_fetched 6 rfl (fun _ => rfl) (fun _ _ _ => rfl) (fun _ => rfl) t d).trans rfl
theorem before2_7 (c : Dev nD) (t : Fin cfg2.N) (d : (cfg2.win 7).block.Idx → Elt F (cfg2.win 7).elt) :
    (dat2 V c).before 7 t d = stg2 V c 7 t :=
  ((dat2 V c).before_in_eq_fetched 7 rfl (fun _ => rfl) (fun _ _ _ => rfl) (fun _ => rfl) t d).trans rfl

/-- The library's body obligation: the staging buffers taken apart, the run applied, its post reassembled. -/
theorem body_obligation2 (c : Dev nD) : BodyObligation (dat2 V c) (defs₀ (F := F)) 𝒱₀ () Set.univ := fun t => by
  rw [bigSep_W2, bigSep_W2]
  simp only [before2_0, before2_1, before2_2, before2_3, before2_4, before2_5, before2_6, before2_7]
  rw [show (dat2 V c).Φ t.succ = (dat2 V c).Φ t.castSucc from rfl, show (dat2 V c).owesAt () t.succ = (dat2 V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run2_owns c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Run

end
-- ==== Proof.IdealRegion3.lean ====
/-
  KERNEL REGION 3: the kernel's body at one grid point, run by the executor; the proof data of the region (every input
  window's buffer at the block the fetch stages there, the result's at `blk3` of them); and the library's body obligation.
-/
module

public import proofs.«01_k».proof.Proof.IdealRunCommon
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The block the kernel of region 3 stores at grid point `i`, from the blocks staged for its eight inputs. -/
noncomputable def blk3 (i : grid3.Coords) (x0 : Vec F S2 .f32) (x1 : Vec F S1x256x768 .f32) (x2 x3 : Vec F S1x256x768 .bf16)
    (x4 x5 : Vec F S1x4096x768 .bf16) (x6 x7 : Vec F S768 .f32) : FVec F S1x256x768 .f32 :=
  k3_pay1 (k3_pay2 x1) (k3_pay6 (k3_pay3 x4) (k3_pay4 i x2 x3 x4 x5) (k3_pay5 i x2 x3 x4 x5))
    (Scalar.addi 3072#32 (Scalar.muli (BitVec.ofNat 32 (i 1).val) 256#32)) (x0 (ix1 0)) (x0 (ix1 1)) x6 x7

/-- What the body leaves in the result's staging buffer over the eight inputs' contents, WITH the proof that from the
    nine staging buffers held whole the kernel runs to its return, the inputs handed back as they were. -/
noncomputable def run3 (c : Dev nD) (i : grid3.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x4096x768 .bf16) (h4 : M4.IsWhole) (M5 : Memref sig .tc .vmem S1x4096x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    { W : Bf (F := F) c M8 // ∀ (f8 : Bf (F := F) c M8) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8
          ∗ (iprop(pt c M0 f0 ∗ pt c M1 f1 ∗ pt c M2 f2 ∗ pt c M3 f3 ∗ pt c M4 f4 ∗ pt c M5 f5 ∗ pt c M6 f6 ∗ pt c M7 f7 ∗ pt c M8 W) -∗ Q ⟨⟩))
          ⊢ wp frame (wpE (defs₀ (F := F)) Variants.none c none) E (cc3__dgn_kernel i M0 h0 M1 h1 M2 h2 M3 h3 M4 h4 M5 h5 M6 h6 M7 h7 M8 h8) Q } := by
  refine ⟨?_, fun f8 E Q => ?run⟩
  case run =>
    rw [cc3__dgn_kernel_eq_skeleton]
    unfold cc3__dgn_kernel_skel
    rw [k3_part1_eq_skeleton, k3_part2_eq_skeleton]
    unfold k3_part1_skel k3_part2_skel
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- Read, that is the block `blk3` of the inputs read. -/
theorem run3_val (c : Dev nD) (i : grid3.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x4096x768 .bf16) (h4 : M4.IsWhole) (M5 : Memref sig .tc .vmem S1x4096x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    M8.view.read (Elt F) (run3 c i M0 h0 M1 h1 M2 h2 M3 h3 M4 h4 M5 h5 M6 h6 M7 h7 M8 h8 f0 f1 f2 f3 f4 f5 f6 f7).1 =
      blk3 i (M0.view.read (Elt F) f0) (M1.view.read (Elt F) f1) (M2.view.read (Elt F) f2) (M3.view.read (Elt F) f3) (M4.view.read (Elt F) f4)
        (M5.view.read (Elt F) f5) (M6.view.read (Elt F) f6) (M7.view.read (Elt F) f7) := by
  dsimp only [run3]
  rw [View.read_writes_junk_eq_canon]
  unfold run3.sl.H8_1 run3.sl.v77 run3.sl.r run3.sl.r_1
  rw [View.canon_cons_unit_lit _ _ _ (by decide)]
  unfold blk3
  simp only [View.readAt_eq_ld]
  rw [View.ld_unit_lit _ (M1.view.read (Elt F) f1) (by decide), View.ld_unit_lit _ (M2.view.read (Elt F) f2) (by decide), View.ld_unit_lit _ (M3.view.read (Elt F) f3) (by decide), View.ld_unit_lit _ (M4.view.read (Elt F) f4) (by decide), View.ld_unit_lit _ (M5.view.read (Elt F) f5) (by decide), View.ld_unit_lit _ (M6.view.read (Elt F) f6) (by decide), View.ld_unit_lit _ (M7.view.read (Elt F) f7) (by decide)]
  congr 1
  · show M0.view.read (Elt F) f0 _ = M0.view.read (Elt F) f0 _
    congr 1; funext a; fin_cases a; rfl
  · show M0.view.read (Elt F) f0 _ = M0.view.read (Elt F) f0 _
    congr 1; funext a; fin_cases a; rfl

/-- The run with every staging buffer owned at what it reads. -/
theorem run3_owns (c : Dev nD) (i : grid3.Coords)
    (M0 : Memref sig .tc .smem S2 .f32) (h0 : M0.IsWhole) (M1 : Memref sig .tc .vmem S1x256x768 .f32) (h1 : M1.IsWhole)
    (M2 : Memref sig .tc .vmem S1x256x768 .bf16) (h2 : M2.IsWhole) (M3 : Memref sig .tc .vmem S1x256x768 .bf16) (h3 : M3.IsWhole)
    (M4 : Memref sig .tc .vmem S1x4096x768 .bf16) (h4 : M4.IsWhole) (M5 : Memref sig .tc .vmem S1x4096x768 .bf16) (h5 : M5.IsWhole)
    (M6 : Memref sig .tc .vmem S768 .f32) (h6 : M6.IsWhole) (M7 : Memref sig .tc .vmem S768 .f32) (h7 : M7.IsWhole)
    (M8 : Memref sig .tc .vmem S1x256x768 .f32) (h8 : M8.IsWhole)
    (X0 : Vec F S2 .f32) (X1 : Vec F S1x256x768 .f32) (X2 X3 : Vec F S1x256x768 .bf16)
    (X4 X5 : Vec F S1x4096x768 .bf16) (X6 X7 : Vec F S768 .f32) (X8 : Vec F S1x256x768 .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗
        (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (blk3 i X0 X1 X2 X3 X4 X5 X6 X7)) -∗ Q ⟨⟩))
      ⊢ wp frame (wpE (defs₀ (F := F)) Variants.none c none) E (cc3__dgn_kernel i M0 h0 M1 h1 M2 h2 M3 h3 M4 h4 M5 h5 M6 h6 M7 h7 M8 h8) Q := by
  simp only [owns_pt c M0 h0, owns_pt c M1 h1, owns_pt c M2 h2, owns_pt c M3 h3, owns_pt c M4 h4, owns_pt c M5 h5, owns_pt c M6 h6, owns_pt c M7 h7, owns_pt c M8 h8]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, Hk⟩
  iapply ((run3 c i M0 h0 M1 h1 M2 h2 M3 h3 M4 h4 M5 h5 M6 h6 M7 h7 M8 h8 f0 f1 f2 f3 f4 f5 f6 f7).2 f8 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  iexists _; isplitr; swap; (· iexact H8); ipureintro
  rw [run3_val, hf0, hf1, hf2, hf3, hf4, hf5, hf6, hf7]

/-! ### The proof data -/

variable (V : (c : Dev nD) → Valuation τ sig (Elt F))

/-- The block of input window `w` at point `t`: its array at the entry valuation, read through the window's block view. -/
abbrev stg3 (c : Dev nD) (w : Fin 9) (t : Fin cfg3.N) : ((cfg3.win w).xblock (cfg3.grid.coords t)).Idx → Elt F (cfg3.win w).elt :=
  ((cfg3.win w).blk t).view.read (Elt F) (V c (Pipeline.arrRef spec3 w))

/-- The block the body leaves at point `t`. -/
abbrev out3 (c : Dev nD) (t : Fin cfg3.N) : FVec F S1x256x768 .f32 :=
  blk3 (grid3.coords t) (stg3 V c 0 t) (stg3 V c 1 t) (stg3 V c 2 t) (stg3 V c 3 t) (stg3 V c 4 t) (stg3 V c 5 t) (stg3 V c 6 t) (stg3 V c 7 t)

/-- The proof data of the region entered from valuation `V`: the arrays at `V`; after the body each input's buffer as
    fetched and the result's at `out3`; the scoped rest as invariant; nothing owed; each input a read share of its array. -/
def dat3 (c : Dev nD) : Dat τ (Elt F) Unit ℕ UU ℕ cfg3 c where
  A w := V c (Pipeline.arrRef spec3 w)
  after w t := match w with
    | ⟨0, _⟩ => stg3 V c 0 t
    | ⟨1, _⟩ => stg3 V c 1 t
    | ⟨2, _⟩ => stg3 V c 2 t
    | ⟨3, _⟩ => stg3 V c 3 t
    | ⟨4, _⟩ => stg3 V c 4 t
    | ⟨5, _⟩ => stg3 V c 5 t
    | ⟨6, _⟩ => stg3 V c 6 t
    | ⟨7, _⟩ => stg3 V c 7 t
    | ⟨8, _⟩ => out3 V c t
  Φ _ := Pipeline.scopedRest (Ix := Unit) (Name := ℕ) (U := UU) (Lvl := ℕ) (Val := Elt F) spec3 c
  q w := Pipeline.shareOf spec3 w
  owed _ := 0

/-- An input window's buffer holds its block whenever the body runs. -/
theorem before3_0 (c : Dev nD) (t : Fin cfg3.N) (d : (cfg3.win 0).block.Idx → Elt F (cfg3.win 0).elt) :
    (dat3 V c).before 0 t d = stg3 V c 0 t :=
  ((dat3 V c).before_in_eq_fetched 0 rfl (fun _ => rfl) (fun _ _ _ => rfl) (fun _ => rfl) t d).trans rfl
theorem before3_1 (c : Dev nD) (t : Fin cfg3.N) (d : (cfg3.win 1).block.Idx → Elt F (cfg3.win 1).elt) :
    (dat3 V c).before 1 t d = stg3 V c 1 t :=
  ((dat3 V c).before_in_eq_fetched 1 rfl (fun _ => rfl) (fun _ _ _ => rfl) (fun _ => rfl) t d).trans rfl
theorem before3_2 (c : Dev nD) (t : Fin cfg3.N) (d : (cfg3.win 2).block.Idx → Elt F (cfg3.win 2).elt) :
    (dat3 V c).before 2 t d = stg3 V c 2 t :=
  ((dat3 V c).before_in_eq_fetched 2 rfl (fun _ => rfl) (fun _ _ _ => rfl) (fun _ => rfl) t d).trans rfl
theorem before3_3 (c : Dev nD) (t : Fin cfg3.N) (d : (cfg3.win 3).block.Idx → Elt F (cfg3.win 3).elt) :
    (dat3 V c).before 3 t d = stg3 V c 3 t :=
  ((dat3 V c).before_in_eq_fetched 3 rfl (fun _ => rfl) (fun _ _ _ => rfl) (fun _ => rfl) t d).trans rfl
theorem before3_4 (c : Dev nD) (t : Fin cfg3.N) (d : (cfg3.win 4).block.Idx → Elt F (cfg3.win 4).elt) :
    (dat3 V c).before 4 t d = stg3 V c 4 t :=
  ((dat3 V c).before_in_eq_fetched 4 rfl (fun _ => rfl) (fun _ _ _ => rfl) (fun _ => rfl) t d).trans rfl
theorem before3_5 (c : Dev nD) (t : Fin cfg3.N) (d : (cfg3.win 5).block.Idx → Elt F (cfg3.win 5).elt) :
    (dat3 V c).before 5 t d = stg3 V c 5 t :=
  ((dat3 V c).before_in_eq_fetched 5 rfl (fun _ => rfl) (fun _ _ _ => rfl) (fun _ => rfl) t d).trans rfl
theorem before3_6 (c : Dev nD) (t : Fin cfg3.N) (d : (cfg3.win 6).block.Idx → Elt F (cfg3.win 6).elt) :
    (dat3 V c).before 6 t d = stg3 V c 6 t :=
  ((dat3 V c).before_in_eq_fetched 6 rfl (fun _ => rfl) (fun _ _ _ => rfl) (fun _ => rfl) t d).trans rfl
theorem before3_7 (c : Dev nD) (t : Fin cfg3.N) (d : (cfg3.win 7).block.Idx → Elt F (cfg3.win 7).elt) :
    (dat3 V c).before 7 t d = stg3 V c 7 t :=
  ((dat3 V c).before_in_eq_fetched 7 rfl (fun _ => rfl) (fun _ _ _ => rfl) (fun _ => rfl) t d).trans rfl

/-- The library's body obligation: the staging buffers taken apart, the run applied, its post reassembled. -/
theorem body_obligation3 (c : Dev nD) : BodyObligation (dat3 V c) (defs₀ (F := F)) 𝒱₀ () Set.univ := fun t => by
  rw [bigSep_W3, bigSep_W3]
  simp only [before3_0, before3_1, before3_2, before3_3, before3_4, before3_5, before3_6, before3_7]
  rw [show (dat3 V c).Φ t.succ = (dat3 V c).Φ t.castSucc from rfl, show (dat3 V c).owesAt () t.succ = (dat3 V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3_owns c (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ (hstage3_6 ((cfg3.slots t 6).cast nbuf3_6)) _ (hstage3_7 ((cfg3.slots t 7).cast nbuf3_7)) _ (hstage3_8 ((cfg3.slots t 8).cast nbuf3_8)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Run

end
-- ==== Proof.IdealSegments.lean ====
/-
  The four kernel regions as segments of the run of @main, each entered from the thread state before it and left at the
  one after it. Every region reads arrays no region writes, so all four proof data are over one entry valuation.
-/
module

public import proofs.«01_k».proof.Proof.IdealRegion0
public import proofs.«01_k».proof.Proof.IdealRegion1
public import proofs.«01_k».proof.Proof.IdealRegion2
public import proofs.«01_k».proof.Proof.IdealRegion3

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → Valuation τ sig (Elt F))

/-- The four regions' proof data from one valuation. -/
def pdats : (p : Fin 4) → (c : Dev nD) → Dat τ (Elt F) Unit ℕ UU ℕ (cfgs p) c
  | ⟨0, _⟩ => fun c => dat0 V c
  | ⟨1, _⟩ => fun c => dat1 V c
  | ⟨2, _⟩ => fun c => dat2 V c
  | ⟨3, _⟩ => fun c => dat3 V c

/-- The arrays of region 0 when it ends: the inputs' as they were, the result's as written back. -/
theorem arr_end0 (Vin Vout : (c : Dev nD) → Valuation τ sig (Elt F))
    (hin : ∀ (c : Dev nD) (w : Fin 9), V c (Pipeline.arrRef spec0 w) = Vin c (Pipeline.arrRef spec0 w))
    (hout : ∀ c : Dev nD, Vout c main_call0_v13 = (dat0 V c).arrAt 8 cfg0.N)
    (hne : ∀ (c : Dev nD) (b : Ref sig .tc), b ≠ main_call0_v13 → Vout c b = Vin c b) (c : Dev nD) (w : Fin 9) :
    (dat0 V c).arrAt w cfg0.N = Vout c (Pipeline.arrRef spec0 w) := by
  fin_cases w
  · exact ((dat0 V c).arrAt_in 0 rfl _).trans ((hin c 0).trans (hne c (Pipeline.arrRef spec0 0) (by decide)).symm)
  · exact ((dat0 V c).arrAt_in 1 rfl _).trans ((hin c 1).trans (hne c (Pipeline.arrRef spec0 1) (by decide)).symm)
  · exact ((dat0 V c).arrAt_in 2 rfl _).trans ((hin c 2).trans (hne c (Pipeline.arrRef spec0 2) (by decide)).symm)
  · exact ((dat0 V c).arrAt_in 3 rfl _).trans ((hin c 3).trans (hne c (Pipeline.arrRef spec0 3) (by decide)).symm)
  · exact ((dat0 V c).arrAt_in 4 rfl _).trans ((hin c 4).trans (hne c (Pipeline.arrRef spec0 4) (by decide)).symm)
  · exact ((dat0 V c).arrAt_in 5 rfl _).trans ((hin c 5).trans (hne c (Pipeline.arrRef spec0 5) (by decide)).symm)
  · exact ((dat0 V c).arrAt_in 6 rfl _).trans ((hin c 6).trans (hne c (Pipeline.arrRef spec0 6) (by decide)).symm)
  · exact ((dat0 V c).arrAt_in 7 rfl _).trans ((hin c 7).trans (hne c (Pipeline.arrRef spec0 7) (by decide)).symm)
  · exact (hout c).symm

set_option maxHeartbeats 800000 in
set_option backward.isDefEq.respectTransparency.types false in
/-- REGION 0 as a segment, from the unscoped buffers at `Vin` (whose arrays are the entry valuation's) to them at `Vout`:
    the arrays split out of the unscoped buffers, those that several windows read shared; put back at the end. -/
def reg0 (Vin Vout : (c : Dev nD) → Valuation τ sig (Elt F))
    (hin : ∀ (c : Dev nD) (w : Fin 9), V c (Pipeline.arrRef spec0 w) = Vin c (Pipeline.arrRef spec0 w))
    (hout : ∀ c : Dev nD, Vout c main_call0_v13 = (dat0 V c).arrAt 8 cfg0.N)
    (hne : ∀ (c : Dev nD) (b : Ref sig .tc), b ≠ main_call0_v13 → Vout c b = Vin c b) :
    Pipeline.RegionSeg (pcfgs (F := F)) adm (pdats V) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 V c).loose
  hwaits := Pipeline.hwaits_of_owed_zero _ _ _ _ L lv 0 fun _ _ => rfl
  pre c := iprop(unscopedBufs c (fun b => Vin c b) ∗ Rest c)
  post c := iprop(unscopedBufs c (fun b => Vout c b) ∗ Rest c)
  X _ := BI.emp
  Y _ := BI.emp
  Z c := Pipeline.unscopedRest (Ix := Unit) (Name := ℕ) (U := UU) (Lvl := ℕ) spec0 c (fun b => Vin c b)
  hentry c := by
    rw [Pipeline.ownSems0_none]
    have hsplit := Pipeline.arrays_of_unscopedBufs_shared (p := 0) (pcfgs (F := F)) adm (pdats V) launch₀0.win sharedIn0 arr_whole0 c
      (fun _ _ => rfl) (fun b => Vin c b) (fun w => hin c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays_shared (p := 0) (pcfgs (F := F)) adm (Ix := Unit) (Name := ℕ) (U := UU) (Lvl := ℕ) launch₀0.win sharedIn0 arr_whole0 c
      (pdats V) (fun _ _ => rfl) (fun b => Vin c b) (fun b => Vout c b) ((pdats V 0 c).arrAt · cfg0.N)
      (arr_end0 V Vin Vout hin hout hne c)
      (fun b hb => hne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The arrays of region 1 when it ends: the inputs' as they were, the result's as written back. -/
theorem arr_end1 (Vin Vout : (c : Dev nD) → Valuation τ sig (Elt F))
    (hin : ∀ (c : Dev nD) (w : Fin 9), V c (Pipeline.arrRef spec1 w) = Vin c (Pipeline.arrRef spec1 w))
    (hout : ∀ c : Dev nD, Vout c main_call0_v14 = (dat1 V c).arrAt 8 cfg1.N)
    (hne : ∀ (c : Dev nD) (b : Ref sig .tc), b ≠ main_call0_v14 → Vout c b = Vin c b) (c : Dev nD) (w : Fin 9) :
    (dat1 V c).arrAt w cfg1.N = Vout c (Pipeline.arrRef spec1 w) := by
  fin_cases w
  · exact ((dat1 V c).arrAt_in 0 rfl _).trans ((hin c 0).trans (hne c (Pipeline.arrRef spec1 0) (by decide)).symm)
  · exact ((dat1 V c).arrAt_in 1 rfl _).trans ((hin c 1).trans (hne c (Pipeline.arrRef spec1 1) (by decide)).symm)
  · exact ((dat1 V c).arrAt_in 2 rfl _).trans ((hin c 2).trans (hne c (Pipeline.arrRef spec1 2) (by decide)).symm)
  · exact ((dat1 V c).arrAt_in 3 rfl _).trans ((hin c 3).trans (hne c (Pipeline.arrRef spec1 3) (by decide)).symm)
  · exact ((dat1 V c).arrAt_in 4 rfl _).trans ((hin c 4).trans (hne c (Pipeline.arrRef spec1 4) (by decide)).symm)
  · exact ((dat1 V c).arrAt_in 5 rfl _).trans ((hin c 5).trans (hne c (Pipeline.arrRef spec1 5) (by decide)).symm)
  · exact ((dat1 V c).arrAt_in 6 rfl _).trans ((hin c 6).trans (hne c (Pipeline.arrRef spec1 6) (by decide)).symm)
  · exact ((dat1 V c).arrAt_in 7 rfl _).trans ((hin c 7).trans (hne c (Pipeline.arrRef spec1 7) (by decide)).symm)
  · exact (hout c).symm

set_option maxHeartbeats 800000 in
set_option backward.isDefEq.respectTransparency.types false in
/-- REGION 1 as a segment, from the unscoped buffers at `Vin` (whose arrays are the entry valuation's) to them at `Vout`:
    the arrays split out of the unscoped buffers, those that several windows read shared; put back at the end. -/
def reg1 (Vin Vout : (c : Dev nD) → Valuation τ sig (Elt F))
    (hin : ∀ (c : Dev nD) (w : Fin 9), V c (Pipeline.arrRef spec1 w) = Vin c (Pipeline.arrRef spec1 w))
    (hout : ∀ c : Dev nD, Vout c main_call0_v14 = (dat1 V c).arrAt 8 cfg1.N)
    (hne : ∀ (c : Dev nD) (b : Ref sig .tc), b ≠ main_call0_v14 → Vout c b = Vin c b) :
    Pipeline.RegionSeg (pcfgs (F := F)) adm (pdats V) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 V c).loose
  hwaits := Pipeline.hwaits_of_owed_zero _ _ _ _ L lv 1 fun _ _ => rfl
  pre c := iprop(unscopedBufs c (fun b => Vin c b) ∗ Rest c)
  post c := iprop(unscopedBufs c (fun b => Vout c b) ∗ Rest c)
  X _ := BI.emp
  Y _ := BI.emp
  Z c := Pipeline.unscopedRest (Ix := Unit) (Name := ℕ) (U := UU) (Lvl := ℕ) spec1 c (fun b => Vin c b)
  hentry c := by
    rw [Pipeline.ownSems0_none]
    have hsplit := Pipeline.arrays_of_unscopedBufs_shared (p := 1) (pcfgs (F := F)) adm (pdats V) launch₀1.win sharedIn1 arr_whole1 c
      (fun _ _ => rfl) (fun b => Vin c b) (fun w => hin c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats V 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays_shared (p := 1) (pcfgs (F := F)) adm (Ix := Unit) (Name := ℕ) (U := UU) (Lvl := ℕ) launch₀1.win sharedIn1 arr_whole1 c
      (pdats V) (fun _ _ => rfl) (fun b => Vin c b) (fun b => Vout c b) ((pdats V 1 c).arrAt · cfg1.N)
      (arr_end1 V Vin Vout hin hout hne c)
      (fun b hb => hne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The arrays of region 2 when it ends: the inputs' as they were, the result's as written back. -/
theorem arr_end2 (Vin Vout : (c : Dev nD) → Valuation τ sig (Elt F))
    (hin : ∀ (c : Dev nD) (w : Fin 9), V c (Pipeline.arrRef spec2 w) = Vin c (Pipeline.arrRef spec2 w))
    (hout : ∀ c : Dev nD, Vout c main_call0_v15 = (dat2 V c).arrAt 8 cfg2.N)
    (hne : ∀ (c : Dev nD) (b : Ref sig .tc), b ≠ main_call0_v15 → Vout c b = Vin c b) (c : Dev nD) (w : Fin 9) :
    (dat2 V c).arrAt w cfg2.N = Vout c (Pipeline.arrRef spec2 w) := by
  fin_cases w
  · exact ((dat2 V c).arrAt_in 0 rfl _).trans ((hin c 0).trans (hne c (Pipeline.arrRef spec2 0) (by decide)).symm)
  · exact ((dat2 V c).arrAt_in 1 rfl _).trans ((hin c 1).trans (hne c (Pipeline.arrRef spec2 1) (by decide)).symm)
  · exact ((dat2 V c).arrAt_in 2 rfl _).trans ((hin c 2).trans (hne c (Pipeline.arrRef spec2 2) (by decide)).symm)
  · exact ((dat2 V c).arrAt_in 3 rfl _).trans ((hin c 3).trans (hne c (Pipeline.arrRef spec2 3) (by decide)).symm)
  · exact ((dat2 V c).arrAt_in 4 rfl _).trans ((hin c 4).trans (hne c (Pipeline.arrRef spec2 4) (by decide)).symm)
  · exact ((dat2 V c).arrAt_in 5 rfl _).trans ((hin c 5).trans (hne c (Pipeline.arrRef spec2 5) (by decide)).symm)
  · exact ((dat2 V c).arrAt_in 6 rfl _).trans ((hin c 6).trans (hne c (Pipeline.arrRef spec2 6) (by decide)).symm)
  · exact ((dat2 V c).arrAt_in 7 rfl _).trans ((hin c 7).trans (hne c (Pipeline.arrRef spec2 7) (by decide)).symm)
  · exact (hout c).symm

set_option maxHeartbeats 800000 in
set_option backward.isDefEq.respectTransparency.types false in
/-- REGION 2 as a segment, from the unscoped buffers at `Vin` (whose arrays are the entry valuation's) to them at `Vout`:
    the arrays split out of the unscoped buffers, those that several windows read shared; put back at the end. -/
def reg2 (Vin Vout : (c : Dev nD) → Valuation τ sig (Elt F))
    (hin : ∀ (c : Dev nD) (w : Fin 9), V c (Pipeline.arrRef spec2 w) = Vin c (Pipeline.arrRef spec2 w))
    (hout : ∀ c : Dev nD, Vout c main_call0_v15 = (dat2 V c).arrAt 8 cfg2.N)
    (hne : ∀ (c : Dev nD) (b : Ref sig .tc), b ≠ main_call0_v15 → Vout c b = Vin c b) :
    Pipeline.RegionSeg (pcfgs (F := F)) adm (pdats V) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 V c).loose
  hwaits := Pipeline.hwaits_of_owed_zero _ _ _ _ L lv 2 fun _ _ => rfl
  pre c := iprop(unscopedBufs c (fun b => Vin c b) ∗ Rest c)
  post c := iprop(unscopedBufs c (fun b => Vout c b) ∗ Rest c)
  X _ := BI.emp
  Y _ := BI.emp
  Z c := Pipeline.unscopedRest (Ix := Unit) (Name := ℕ) (U := UU) (Lvl := ℕ) spec2 c (fun b => Vin c b)
  hentry c := by
    rw [Pipeline.ownSems0_none]
    have hsplit := Pipeline.arrays_of_unscopedBufs_shared (p := 2) (pcfgs (F := F)) adm (pdats V) launch₀2.win sharedIn2 arr_whole2 c
      (fun _ _ => rfl) (fun b => Vin c b) (fun w => hin c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 2 c).Φ 0 = Pipeline.scopedRest (Ix := Unit) (Name := ℕ) (U := UU) (Lvl := ℕ) (Val := Elt F) spec2 c from rfl]
    iintro ⟨-, -, Hr⟩; iexact Hr
  hout c := by
    rw [Pipeline.ownSems0_none, show (pdats V 2 c).Φ (Fin.last _) = Pipeline.scopedRest (Ix := Unit) (Name := ℕ) (U := UU) (Lvl := ℕ) (Val := Elt F) spec2 c from rfl]
    iintro Hr
    isplitr; · iempintro
    isplitr; · iempintro
    iexact Hr
  hexit c := by
    have hjoin := Pipeline.unscopedBufs_of_arrays_shared (p := 2) (pcfgs (F := F)) adm (Ix := Unit) (Name := ℕ) (U := UU) (Lvl := ℕ) launch₀2.win sharedIn2 arr_whole2 c
      (pdats V) (fun _ _ => rfl) (fun b => Vin c b) (fun b => Vout c b) ((pdats V 2 c).arrAt · cfg2.N)
      (arr_end2 V Vin Vout hin hout hne c)
      (fun b hb => hne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The arrays of region 3 when it ends: the inputs' as they were, the result's as written back. -/
theorem arr_end3 (Vin Vout : (c : Dev nD) → Valuation τ sig (Elt F))
    (hin : ∀ (c : Dev nD) (w : Fin 9), V c (Pipeline.arrRef spec3 w) = Vin c (Pipeline.arrRef spec3 w))
    (hout : ∀ c : Dev nD, Vout c main_call0_v16 = (dat3 V c).arrAt 8 cfg3.N)
    (hne : ∀ (c : Dev nD) (b : Ref sig .tc), b ≠ main_call0_v16 → Vout c b = Vin c b) (c : Dev nD) (w : Fin 9) :
    (dat3 V c).arrAt w cfg3.N = Vout c (Pipeline.arrRef spec3 w) := by
  fin_cases w
  · exact ((dat3 V c).arrAt_in 0 rfl _).trans ((hin c 0).trans (hne c (Pipeline.arrRef spec3 0) (by decide)).symm)
  · exact ((dat3 V c).arrAt_in 1 rfl _).trans ((hin c 1).trans (hne c (Pipeline.arrRef spec3 1) (by decide)).symm)
  · exact ((dat3 V c).arrAt_in 2 rfl _).trans ((hin c 2).trans (hne c (Pipeline.arrRef spec3 2) (by decide)).symm)
  · exact ((dat3 V c).arrAt_in 3 rfl _).trans ((hin c 3).trans (hne c (Pipeline.arrRef spec3 3) (by decide)).symm)
  · exact ((dat3 V c).arrAt_in 4 rfl _).trans ((hin c 4).trans (hne c (Pipeline.arrRef spec3 4) (by decide)).symm)
  · exact ((dat3 V c).arrAt_in 5 rfl _).trans ((hin c 5).trans (hne c (Pipeline.arrRef spec3 5) (by decide)).symm)
  · exact ((dat3 V c).arrAt_in 6 rfl _).trans ((hin c 6).trans (hne c (Pipeline.arrRef spec3 6) (by decide)).symm)
  · exact ((dat3 V c).arrAt_in 7 rfl _).trans ((hin c 7).trans (hne c (Pipeline.arrRef spec3 7) (by decide)).symm)
  · exact (hout c).symm

set_option maxHeartbeats 800000 in
set_option backward.isDefEq.respectTransparency.types false in
/-- REGION 3 as a segment, from the unscoped buffers at `Vin` (whose arrays are the entry valuation's) to them at `Vout`:
    the arrays split out of the unscoped buffers, those that several windows read shared; put back at the end. -/
def reg3 (Vin Vout : (c : Dev nD) → Valuation τ sig (Elt F))
    (hin : ∀ (c : Dev nD) (w : Fin 9), V c (Pipeline.arrRef spec3 w) = Vin c (Pipeline.arrRef spec3 w))
    (hout : ∀ c : Dev nD, Vout c main_call0_v16 = (dat3 V c).arrAt 8 cfg3.N)
    (hne : ∀ (c : Dev nD) (b : Ref sig .tc), b ≠ main_call0_v16 → Vout c b = Vin c b) :
    Pipeline.RegionSeg (pcfgs (F := F)) adm (pdats V) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 V c).loose
  hwaits := Pipeline.hwaits_of_owed_zero _ _ _ _ L lv 3 fun _ _ => rfl
  pre c := iprop(unscopedBufs c (fun b => Vin c b) ∗ Rest c)
  post c := iprop(unscopedBufs c (fun b => Vout c b) ∗ Rest c)
  X _ := BI.emp
  Y _ := BI.emp
  Z c := Pipeline.unscopedRest (Ix := Unit) (Name := ℕ) (U := UU) (Lvl := ℕ) spec3 c (fun b => Vin c b)
  hentry c := by
    rw [Pipeline.ownSems0_none]
    have hsplit := Pipeline.arrays_of_unscopedBufs_shared (p := 3) (pcfgs (F := F)) adm (pdats V) launch₀3.win sharedIn3 arr_whole3 c
      (fun _ _ => rfl) (fun b => Vin c b) (fun w => hin c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 3 c).Φ 0 = Pipeline.scopedRest (Ix := Unit) (Name := ℕ) (U := UU) (Lvl := ℕ) (Val := Elt F) spec3 c from rfl]
    iintro ⟨-, -, Hr⟩; iexact Hr
  hout c := by
    rw [Pipeline.ownSems0_none, show (pdats V 3 c).Φ (Fin.last _) = Pipeline.scopedRest (Ix := Unit) (Name := ℕ) (U := UU) (Lvl := ℕ) (Val := Elt F) spec3 c from rfl]
    iintro Hr
    isplitr; · iempintro
    isplitr; · iempintro
    iexact Hr
  hexit c := by
    have hjoin := Pipeline.unscopedBufs_of_arrays_shared (p := 3) (pcfgs (F := F)) adm (Ix := Unit) (Name := ℕ) (U := UU) (Lvl := ℕ) launch₀3.win sharedIn3 arr_whole3 c
      (pdats V) (fun _ _ => rfl) (fun b => Vin c b) (fun b => Vout c b) ((pdats V 3 c).arrAt · cfg3.N)
      (arr_end3 V Vin Vout hin hout hne c)
      (fun b hb => hne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Run

end
-- ==== Proof.IdealLaunch.lean ====
/-
  THE LAUNCH of @main: the host stretch before the kernels, the four regions, the concatenation after them, chained.
  `run`: from any memory with zero counters every fair execution terminates with the result at the last valuation
  `V6` of the contents the regions leave, the arguments as launched, and every semaphore counter at zero.
-/
module

public import proofs.«01_k».proof.Proof.IdealSegments

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- What the regions leave: each its result's array, written back block by block. -/
def outs : Outs (F := F) := fun _ r c =>
  if h : r = main_call0_v13 then h ▸ (dat0 (V1 m) c).arrAt 8 cfg0.N else
  if h : r = main_call0_v14 then h ▸ (dat1 (V1 m) c).arrAt 8 cfg1.N else
  if h : r = main_call0_v15 then h ▸ (dat2 (V1 m) c).arrAt 8 cfg2.N else
  if h : r = main_call0_v16 then h ▸ (dat3 (V1 m) c).arrAt 8 cfg3.N else
  Classical.arbitrary _

theorem outs_0 (n : ℕ) (c : Dev nD) : outs m n main_call0_v13 c = (dat0 (V1 m) c).arrAt 8 cfg0.N := by
  unfold outs; rw [dif_pos rfl]
theorem outs_1 (n : ℕ) (c : Dev nD) : outs m n main_call0_v14 c = (dat1 (V1 m) c).arrAt 8 cfg1.N := by
  unfold outs; rw [dif_neg (by decide)]; rw [dif_pos rfl]
theorem outs_2 (n : ℕ) (c : Dev nD) : outs m n main_call0_v15 c = (dat2 (V1 m) c).arrAt 8 cfg2.N := by
  unfold outs; rw [dif_neg (by decide)]; rw [dif_neg (by decide)]; rw [dif_pos rfl]
theorem outs_3 (n : ℕ) (c : Dev nD) : outs m n main_call0_v16 c = (dat3 (V1 m) c).arrAt 8 cfg3.N := by
  unfold outs; rw [dif_neg (by decide)]; rw [dif_neg (by decide)]; rw [dif_neg (by decide)]; rw [dif_pos rfl]

theorem arr_eq0 (c : Dev nD) (w : Fin 9) : V1 m c (Pipeline.arrRef spec0 w) = V1 m c (Pipeline.arrRef spec0 w) := by
  rfl
/-- Region 0 at its place in @main. -/
def R0 : Pipeline.RegionSeg (pcfgs (F := F)) adm (pdats (V1 m)) () defs₀ 𝒱₀ L lv 0 :=
  reg0 (V1 m) (V1 m) (V2 m (outs m)) (arr_eq0 m)
    (fun c => (Function.update_self _ _ _).trans (outs_0 m _ c))
    (fun c b hb => V2_of m (outs m) c b (by simpa using hb))

theorem arr_eq1 (c : Dev nD) (w : Fin 9) : V1 m c (Pipeline.arrRef spec1 w) = V2 m (outs m) c (Pipeline.arrRef spec1 w) := by
  fin_cases w <;> exact ((V2_of m (outs m) c _ (by decide)).trans <| rfl).symm
/-- Region 1 at its place in @main. -/
def R1 : Pipeline.RegionSeg (pcfgs (F := F)) adm (pdats (V1 m)) () defs₀ 𝒱₀ L lv 1 :=
  reg1 (V1 m) (V2 m (outs m)) (V3 m (outs m)) (arr_eq1 m)
    (fun c => (Function.update_self _ _ _).trans (outs_1 m _ c))
    (fun c b hb => V3_of m (outs m) c b (by simpa using hb))

theorem arr_eq2 (c : Dev nD) (w : Fin 9) : V1 m c (Pipeline.arrRef spec2 w) = V3 m (outs m) c (Pipeline.arrRef spec2 w) := by
  fin_cases w <;> exact ((V3_of m (outs m) c _ (by decide)).trans <| (V2_of m (outs m) c _ (by decide)).trans <| rfl).symm
/-- Region 2 at its place in @main. -/
def R2 : Pipeline.RegionSeg (pcfgs (F := F)) adm (pdats (V1 m)) () defs₀ 𝒱₀ L lv 2 :=
  reg2 (V1 m) (V3 m (outs m)) (V4 m (outs m)) (arr_eq2 m)
    (fun c => (Function.update_self _ _ _).trans (outs_2 m _ c))
    (fun c b hb => V4_of m (outs m) c b (by simpa using hb))

theorem arr_eq3 (c : Dev nD) (w : Fin 9) : V1 m c (Pipeline.arrRef spec3 w) = V4 m (outs m) c (Pipeline.arrRef spec3 w) := by
  fin_cases w <;> exact ((V4_of m (outs m) c _ (by decide)).trans <| (V3_of m (outs m) c _ (by decide)).trans <| (V2_of m (outs m) c _ (by decide)).trans <| rfl).symm
/-- Region 3 at its place in @main. -/
def R3 : Pipeline.RegionSeg (pcfgs (F := F)) adm (pdats (V1 m)) () defs₀ 𝒱₀ L lv 3 :=
  reg3 (V1 m) (V4 m (outs m)) (V5 m (outs m)) (arr_eq3 m)
    (fun c => (Function.update_self _ _ _).trans (outs_3 m _ c))
    (fun c b hb => V5_of m (outs m) c b (by simpa using hb))

/-- The unscoped buffers at a valuation, in the host stretches' form and in the regions'. -/
theorem to_bufs (W : (c : Dev nD) → Valuation τ sig (Elt F)) (c : Dev nD) :
    (iprop(StableHlo.held (c : Thread nD τ) (Pipeline.ucRefs τ sig) (W c) ∗ Rest c) : sProp 𝕄) ⊢ iprop(unscopedBufs c (fun b => W c b) ∗ Rest c) := by
  rw [Pipeline.unscopedBufs_held]
theorem of_bufs (W : (c : Dev nD) → Valuation τ sig (Elt F)) (c : Dev nD) :
    (iprop(unscopedBufs c (fun b => W c b) ∗ Rest c) : sProp 𝕄) ⊢ iprop(StableHlo.held (c : Thread nD τ) (Pipeline.ucRefs τ sig) (W c) ∗ Rest c) := by
  rw [Pipeline.unscopedBufs_held]

set_option maxHeartbeats 800000 in
set_option backward.isDefEq.respectTransparency.types false in
/-- Every fair execution of @main, given the four regions' segments. -/
theorem run_of (os : Outs (F := F)) (pd : (p : Fin 4) → (c : Dev nD) → Dat τ (Elt F) Unit ℕ UU ℕ (cfgs p) c)
    (S0 : Pipeline.RegionSeg (pcfgs (F := F)) adm pd () defs₀ 𝒱₀ L lv 0)
    (hpre0 : ∀ c : Dev nD, iprop(StableHlo.held (c : Thread nD τ) (Pipeline.ucRefs τ sig) (V1 m c) ∗ Rest c) ⊢ S0.pre c)
    (hpost0 : ∀ c : Dev nD, S0.post c ⊢ iprop(StableHlo.held (c : Thread nD τ) (Pipeline.ucRefs τ sig) (V2 m os c) ∗ Rest c))
    (S1 : Pipeline.RegionSeg (pcfgs (F := F)) adm pd () defs₀ 𝒱₀ L lv 1)
    (hpre1 : ∀ c : Dev nD, iprop(StableHlo.held (c : Thread nD τ) (Pipeline.ucRefs τ sig) (V2 m os c) ∗ Rest c) ⊢ S1.pre c)
    (hpost1 : ∀ c : Dev nD, S1.post c ⊢ iprop(StableHlo.held (c : Thread nD τ) (Pipeline.ucRefs τ sig) (V3 m os c) ∗ Rest c))
    (S2 : Pipeline.RegionSeg (pcfgs (F := F)) adm pd () defs₀ 𝒱₀ L lv 2)
    (hpre2 : ∀ c : Dev nD, iprop(StableHlo.held (c : Thread nD τ) (Pipeline.ucRefs τ sig) (V3 m os c) ∗ Rest c) ⊢ S2.pre c)
    (hpost2 : ∀ c : Dev nD, S2.post c ⊢ iprop(StableHlo.held (c : Thread nD τ) (Pipeline.ucRefs τ sig) (V4 m os c) ∗ Rest c))
    (S3 : Pipeline.RegionSeg (pcfgs (F := F)) adm pd () defs₀ 𝒱₀ L lv 3)
    (hpre3 : ∀ c : Dev nD, iprop(StableHlo.held (c : Thread nD τ) (Pipeline.ucRefs τ sig) (V4 m os c) ∗ Rest c) ⊢ S3.pre c)
    (hpost3 : ∀ c : Dev nD, S3.post c ⊢ iprop(StableHlo.held (c : Thread nD τ) (Pipeline.ucRefs τ sig) (V5 m os c) ∗ Rest c))
    (ρ : Dev nD → PrngReg) :
    θ_run defs (onTc (τ := τ) (main (F := F))) ⟨m, fun _ => 0, ρ⟩ (fun r => (∀ c : Dev nD,
      r.2.mem ((c.tc : Thread nD τ).loc main_v0) = V6 m os c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm pd () cellOf_inj emb₁ defs₀ 𝒱₀ L lv m ρ main
    (segs m os 𝒱₀ L lv (fun _ => Rest) () pd S0 S1 S2 S3)
    (fun c Q => by
      rewrite [main_chain c, Pipeline.Seg.run_eq_chain,
        show (segs m os 𝒱₀ L lv (fun _ => Rest) () pd S0 S1 S2 S3 c).map Pipeline.Seg.prog = [
          StableHlo.seq hostOps0, Prog.lift (.customCall (Pipeline.entry 0) ()), Prog.lift (.customCall (Pipeline.entry 1) ()),
          Prog.lift (.customCall (Pipeline.entry 2) ()), Prog.lift (.customCall (Pipeline.entry 3) ()), StableHlo.seq hostOps4 ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V6 m os c))
    (hch := fun c => ⟨.rfl, hpre0 c, (hpost0 c).trans (hpre1 c), (hpost1 c).trans (hpre2 c), (hpost2 c).trans (hpre3 c), hpost3 c, .rfl⟩)
    (hinit := by
      refine Pipeline.initEach L lv fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v0) = V6 m os c main_v0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V6 m os c) s') $$ [Hh HSI]
  · isplitl [Hh] <;> iassumption
  icases Hr with ⟨%h, HSI⟩
  imodintro
  isplitr
  · ipureintro
    have rd (r : Ref sig .tc) (hr : ¬ (Proc.devRef (τ := τ) .tc r).isScoped = true) := h (Proc.devRef .tc r) (Finset.mem_filter.mpr ⟨StableHlo.devRef_mem_tcRefs r, hr⟩)
    exact ⟨rd main_v0 (by decide), (rd main_arg0 (by decide)).trans (V6_main_arg0 m os c), (rd main_arg1 (by decide)).trans (V6_main_arg1 m os c), (rd main_arg2 (by decide)).trans (V6_main_arg2 m os c), (rd main_arg3 (by decide)).trans (V6_main_arg3 m os c), (rd main_arg4 (by decide)).trans (V6_main_arg4 m os c)⟩
  · iexact HSI

/-- Every fair execution of @main. -/
theorem run (ρ : Dev nD → PrngReg) :
    θ_run defs (onTc (τ := τ) (main (F := F))) ⟨m, fun _ => 0, ρ⟩ (fun r => (∀ c : Dev nD,
      r.2.mem ((c.tc : Thread nD τ).loc main_v0) = V6 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  run_of m (outs m) (pdats (V1 m)) (R0 m) (fun c => to_bufs (V1 m) c) (fun c => of_bufs (V2 m (outs m)) c) (R1 m) (fun c => to_bufs (V2 m (outs m)) c) (fun c => of_bufs (V3 m (outs m)) c) (R2 m) (fun c => to_bufs (V3 m (outs m)) c) (fun c => of_bufs (V4 m (outs m)) c) (R3 m) (fun c => to_bufs (V4 m (outs m)) c) (fun c => of_bufs (V5 m (outs m)) c) ρ

end Cert.KernelIdeal.Run

end
-- ==== Proof.Frames.lean ====
/- The frames of the three programs: each runs to the end, leaves its arguments as they were and every counter at
   zero. The kernel's two come from its launch theorem, the reference's from its straight-line run. -/
module

public import proofs.«01_k».proof.Defs
public import proofs.«01_k».proof.Proof.Launch
public import proofs.«01_k».proof.Proof.IdealLaunch
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed keeps its arguments and ends quiet. -/
theorem frame_kernel : Cert.quiescent_Kernel := fun m g _ =>
  (θ_run Cert.Kernel.defs _ _).mono (fun _ h => ⟨fun c => (h.1 c).2, h.2⟩) (Cert.Kernel.Run.run (F := Bits) m g)

/-- The idealized kernel keeps its arguments and ends quiet. -/
theorem frame_ideal : Cert.quiescent_KernelIdeal := fun m g _ =>
  (θ_run Cert.KernelIdeal.defs _ _).mono (fun _ h => ⟨fun c => (h.1 c).2, h.2⟩) (Cert.KernelIdeal.Run.run (F := Ideal) m g)

/-- The reference keeps its arguments and ends quiet: it has no counters at all. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.RefTerms.lean ====
/- The reference's composed value, cut into the steps that the proof reads one by one. -/
module

public import proofs.«01_k».proof.Proof.Gen.ReferenceIdeal.Run
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo

variable {F : FTy → Type} [FloatOps F]

/-- The masked scores. -/
def maskedT (a0 : FVec F S2x4096x768 .f32) : FVec F S2x4096x4096 .f32 :=
  (select (broadcastInDim S2x4096x4096 ![0, 1, 2] bcast_S1x4096x4096_S2x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (Host.dotGeneral dot_S2x4096x768_S2x4096x768_S2x4096x4096_2_2_1_1_0_0 none a0 a0) (broadcastInDim S2x4096x4096 ![] bcast_S_S2x4096x4096 (constant S_ .f32 0xFF7FFFFF#32)))

/-- The eight greatest scores of every row, with their columns. -/
def topT (a0 : FVec F S2x4096x768 .f32) : (S2x4096x8.Idx → F .f32) × IVec S2x4096x8 32 :=
  (Host.topK S2x4096x8 2 (FloatOps.cmpfTotal .gt) (maskedT a0) sliceFits_S2x4096x4096_S2x4096x8)

/-- Where each of them is written: batch, row and column. -/
def indexT (a0 : FVec F S2x4096x768 .f32) : IVec S2x4096x8x3 32 :=
  (concatenate S2x4096x8x3 3 [⟨S2x4096x8x1, ((broadcastInDim S2x4096x8x1 ![0, 1, 2] bcast_S2x4096x8_S2x4096x8x1_0_1_2 (broadcastInDim S2x4096x8 ![0, 1, 2] bcast_S2x1x1_S2x4096x8_0_1_2 (select (cmpi .slt (broadcastInDim S2x1x1 ![0] bcast_S2_S2x1x1_0 (iotaInDim S2 32 0)) (broadcastInDim S2x1x1 ![] bcast_S_S2x1x1 (constantI S_ 32 0#32))) (addi (broadcastInDim S2x1x1 ![0] bcast_S2_S2x1x1_0 (iotaInDim S2 32 0)) (broadcastInDim S2x1x1 ![] bcast_S_S2x1x1 (constantI S_ 32 2#32))) (broadcastInDim S2x1x1 ![0] bcast_S2_S2x1x1_0 (iotaInDim S2 32 0))))) : (⟨S2x4096x8x1, .i32⟩ : BufTy).Contents (Elt F))⟩, ⟨S2x4096x8x1, ((broadcastInDim S2x4096x8x1 ![0, 1, 2] bcast_S2x4096x8_S2x4096x8x1_0_1_2 (broadcastInDim S2x4096x8 ![0, 1, 2] bcast_S1x4096x1_S2x4096x8_0_1_2 (select (cmpi .slt (broadcastInDim S1x4096x1 ![1] bcast_S4096_S1x4096x1_1 (iotaInDim S4096 32 0)) (broadcastInDim S1x4096x1 ![] bcast_S_S1x4096x1 (constantI S_ 32 0#32))) (addi (broadcastInDim S1x4096x1 ![1] bcast_S4096_S1x4096x1_1 (iotaInDim S4096 32 0)) (broadcastInDim S1x4096x1 ![] bcast_S_S1x4096x1 (constantI S_ 32 4096#32))) (broadcastInDim S1x4096x1 ![1] bcast_S4096_S1x4096x1_1 (iotaInDim S4096 32 0))))) : (⟨S2x4096x8x1, .i32⟩ : BufTy).Contents (Elt F))⟩, ⟨S2x4096x8x1, ((broadcastInDim S2x4096x8x1 ![0, 1, 2] bcast_S2x4096x8_S2x4096x8x1_0_1_2 (select (cmpi .slt ((topT a0).2) (broadcastInDim S2x4096x8 ![] bcast_S_S2x4096x8 (constantI S_ 32 0#32))) (addi ((topT a0).2) (broadcastInDim S2x4096x8 ![] bcast_S_S2x4096x8 (constantI S_ 32 4096#32))) ((topT a0).2))) : (⟨S2x4096x8x1, .i32⟩ : BufTy).Contents (Elt F))⟩] concatenates_S2x4096x8x1_S2x4096x8x1_S2x4096x8x1_S2x4096x8x3_d3 : (⟨S2x4096x8x3, .i32⟩ : BufTy).Contents (Elt F))

/-- What is written there: one for a score that the mask let through. -/
def markT (a0 : FVec F S2x4096x768 .f32) : FVec F S2x4096x8 .f32 :=
  (uitofp .f32 (cmpf .ogt ((topT a0).1) (broadcastInDim S2x4096x8 ![] bcast_S_S2x4096x8 (constant S_ .f32 0xFEFFFFFF#32))))

/-- The adjacency. -/
def adjT (a0 : FVec F S2x4096x768 .f32) : FVec F S2x4096x4096 .f32 :=
  (Host.scatter scatter_S2x4096x4096_S2x4096x8x3_S2x4096x8_n_012_012_3 (fun _ b => b) (broadcastInDim S2x4096x4096 ![] bcast_S_S2x4096x4096 (constant S_ .f32 0x00000000#32)) ((indexT a0)) (markT a0))

/-- The mixing weight. -/
def mixT (a3 : FVec F S_ .f32) : FVec F S_ .f32 :=
  (Host.divf (constant S_ .f32 0x3F800000#32) (addf (constant S_ .f32 0x3F800000#32) (Host.exp (Host.negf a3))))

/-- The output scale. -/
def scaleT (a4 : FVec F S_ .f32) : FVec F S_ .f32 :=
  (addf (select (cmpf .une (subf a4 (constant S_ .f32 0x00000000#32)) (subf a4 (constant S_ .f32 0x00000000#32))) (addf a4 (constant S_ .f32 0x00000000#32)) (addf (maximumf a4 (constant S_ .f32 0x00000000#32)) (Host.log1p (Host.exp (Host.negf (Host.absf (subf a4 (constant S_ .f32 0x00000000#32)))))))) (constant S_ .f32 0x3C23D70A#32))

/-- The value that the activation is taken of. -/
def preT (a0 : FVec F S2x4096x768 .f32) (a1 : FVec F S768 .f32) (a2 : FVec F S768 .f32) (a3 : FVec F S_ .f32) : FVec F S2x4096x768 .f32 :=
  (addf (mulf (addf (mulf (broadcastInDim S2x4096x768 ![] bcast_S_S2x4096x768 (mixT a3)) a0) (mulf (broadcastInDim S2x4096x768 ![] bcast_S_S2x4096x768 (subf (constant S_ .f32 0x3F800000#32) (mixT a3))) (Host.divf (Host.dotGeneral dot_S2x4096x4096_S2x4096x768_S2x4096x768_2_1_1_2_0_0 none (adjT a0) a0) (broadcastInDim S2x4096x768 ![0, 1, 2] bcast_S2x4096x1_S2x4096x768_0_1_2 (maximumf (broadcastInDim S2x4096x1 ![] bcast_S_S2x4096x1 (id (constant S_ .f32 0x3F800000#32))) (broadcastInDim S2x4096x1 ![0, 1] bcast_S2x4096_S2x4096x1_0_1 (Host.reduceAdd (adjT a0) (constant S_ .f32 0x00000000#32) reducesTo_S2x4096x4096_S2x4096_d2 h_S_))))))) (broadcastInDim S2x4096x768 ![0, 1, 2] bcast_S1x1x768_S2x4096x768_0_1_2 (broadcastInDim S1x1x768 ![2] bcast_S768_S1x1x768_2 a1))) (broadcastInDim S2x4096x768 ![0, 1, 2] bcast_S1x1x768_S2x4096x768_0_1_2 (broadcastInDim S1x1x768 ![2] bcast_S768_S1x1x768_2 a2)))

/-- The result. -/
def finalT (a0 : FVec F S2x4096x768 .f32) (a1 : FVec F S768 .f32) (a2 : FVec F S768 .f32) (a3 : FVec F S_ .f32) (a4 : FVec F S_ .f32) : FVec F S2x4096x768 .f32 :=
  mulf (mulf (mulf (broadcastInDim S2x4096x768 ![] bcast_S_S2x4096x768 (constant S_ .f32 0x3F000000#32)) (preT a0 a1 a2 a3)) (Host.erfc (Host.divf (Host.negf (preT a0 a1 a2 a3)) (broadcastInDim S2x4096x768 ![] bcast_S_S2x4096x768 (Host.sqrt (constant S_ .f32 0x40000000#32)))))) (broadcastInDim S2x4096x768 ![] bcast_S_S2x4096x768 (scaleT a4))

/-- The run's value is that result of the arguments. -/
theorem res_eq (m : (ℓ : Loc nD τ sig) → Buf (Elt F) ℓ) (c : Dev nD) :
    res_main_v72 m c = finalT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Value

end
-- ==== Proof.TopEight.lean ====
/- The selection that the kernel makes by eight rounds of maxima, against the selection that the reference makes by
   taking the first eight places of a sorted row. Everything here is about one row of extended reals. -/
module

public import Idealize.ShloMosaic.PureOps.Ideal.Laws
public import Mathlib.Data.Finset.Fold

@[expose] public section

noncomputable section

namespace Cert.Sel

/-- The greatest value of a row, from the start value `bot`. -/
def best {W : ℕ} (bot : EReal) (g : Fin W → EReal) : EReal := Finset.univ.fold max bot g

/-- The next round: the greatest value among those below `v`, the others counted as `neg`. -/
def next {W : ℕ} (bot neg : EReal) (g : Fin W → EReal) (v : EReal) : EReal :=
  Finset.univ.fold max bot (fun s => if g s < v then g s else neg)

/-- The value after `k` further rounds. -/
def rounds {W : ℕ} (bot neg : EReal) (g : Fin W → EReal) : ℕ → EReal
  | 0 => best bot g
  | k + 1 => next bot neg g (rounds bot neg g k)

/-- A column is kept when it reaches both the eighth round's value and the floor. -/
def kept {W : ℕ} (bot neg floor : EReal) (g : Fin W → EReal) (s : Fin W) : Prop :=
  max (rounds bot neg g 7) floor ≤ g s

theorem best_eq {W : ℕ} {bot : EReal} {g : Fin W → EReal} {v : EReal} (hb : bot ≤ v) (hle : ∀ s, g s ≤ v) (hat : ∃ s, g s = v) :
    best bot g = v := by
  obtain ⟨s, hs⟩ := hat
  refine le_antisymm (Finset.fold_max_le v |>.mpr ⟨hb, fun s _ => hle s⟩) ?_
  exact (Finset.le_fold_max v).mpr (.inr ⟨s, Finset.mem_univ s, hs.ge⟩)

/-- A fold of maxima that exceeds its start value is reached at some column. -/
theorem fold_attained {W : ℕ} {bot c : EReal} {g : Fin W → EReal} (hb : bot ≤ c) (h : c < Finset.univ.fold max bot g) :
    ∃ s, g s = Finset.univ.fold max bot g ∧ c < g s := by
  obtain h' | ⟨s, -, hs⟩ := (Finset.le_fold_max (Finset.univ.fold max bot g)).mp le_rfl
  · exact absurd (h.trans_le (h'.trans hb)) (lt_irrefl _)
  · have : g s ≤ Finset.univ.fold max bot g := (Finset.le_fold_max _).mpr (.inr ⟨s, Finset.mem_univ s, le_rfl⟩)
    have e := le_antisymm this hs
    exact ⟨s, e, e ▸ h⟩

/-- While the rounds stay above `neg`, each brings at least one further column. -/
theorem rounds_card {W : ℕ} {bot neg : EReal} (hb : bot ≤ neg) (g : Fin W → EReal) (k : ℕ) (h : neg < rounds bot neg g k) :
    k + 1 ≤ (Finset.univ.filter fun s => rounds bot neg g k ≤ g s).card := by
  induction k with
  | zero =>
    obtain ⟨s, hs, -⟩ := fold_attained hb h
    exact Finset.card_pos.mpr ⟨s, Finset.mem_filter.mpr ⟨Finset.mem_univ s, hs.ge⟩⟩
  | succ k ih =>
    obtain ⟨s, hs, hn⟩ := fold_attained (g := fun s => if g s < rounds bot neg g k then g s else neg) hb h
    have hlt : g s < rounds bot neg g k := by
      by_contra hc
      simp only [hc, if_false, lt_irrefl] at hn
    simp only [hlt, if_true] at hs hn
    have hv : rounds bot neg g (k + 1) = g s := hs.symm
    have := ih (hn.trans hlt)
    have hsub : insert s (Finset.univ.filter fun s => rounds bot neg g k ≤ g s) ⊆ Finset.univ.filter fun s => rounds bot neg g (k + 1) ≤ g s := by
      intro a ha
      rw [hv]
      rcases Finset.mem_insert.mp ha with rfl | ha
      · exact Finset.mem_filter.mpr ⟨Finset.mem_univ _, le_rfl⟩
      · exact Finset.mem_filter.mpr ⟨Finset.mem_univ _, hlt.le.trans (Finset.mem_filter.mp ha).2⟩
    have hc := Finset.card_le_card hsub
    rw [Finset.card_insert_of_notMem (by simp [hlt])] at hc
    omega

/-- What is known of one row: beyond column `t` it is `neg`, up to it at least `floor`; `σ` lists the columns in falling
    order; from row 8 on the first nine values fall strictly. -/
structure Row (n : ℕ) (neg floor : EReal) (t : ℕ) (f : Fin n → EReal) (σ : Fin n → Fin n) : Prop where
  lt : neg < floor
  out : ∀ s : Fin n, t < s.val → f s = neg
  inn : ∀ s : Fin n, s.val ≤ t → floor ≤ f s
  inj : Function.Injective σ
  surj : Function.Surjective σ
  sorted : ∀ i j : Fin n, i < j → f (σ j) ≤ f (σ i)
  strict : 8 ≤ t → ∀ i j : Fin n, i.val < 8 → j.val = i.val + 1 → f (σ j) < f (σ i)

namespace Row

variable {n : ℕ} {neg floor : EReal} {t : ℕ} {f : Fin n → EReal} {σ : Fin n → Fin n}

theorem mono (R : Row n neg floor t f σ) {i j : Fin n} (h : i ≤ j) : f (σ j) ≤ f (σ i) := by
  rcases h.lt_or_eq with h | rfl
  · exact R.sorted i j h
  · exact le_rfl

theorem neg_le (R : Row n neg floor t f σ) (s : Fin n) : neg ≤ f s := by
  by_cases h : s.val ≤ t
  · exact R.lt.le.trans (R.inn s h)
  · exact (R.out s (by omega)).ge

theorem le_of_lt (R : Row n neg floor t f σ) {s : Fin n} (h : neg < f s) : s.val ≤ t := by
  by_contra hc
  exact absurd (R.out s (by omega)) h.ne'

/-- The columns that both programs select: the first eight places if there are nine columns to choose from, otherwise all. -/
def pick (n t : ℕ) (σ : Fin n → Fin n) (s : Fin n) : Prop := s.val ≤ t ∧ ∃ i : Fin n, i.val < 8 ∧ σ i = s

theorem top_lt (R : Row n neg floor t f σ) (hn : 9 ≤ n) (ht : 8 ≤ t) {i : Fin n} (hi : i.val < 8) : neg < f (σ i) :=
  (R.neg_le _).trans_lt ((R.strict ht ⟨7, by omega⟩ ⟨8, by omega⟩ (by simp) (by simp)).trans_le (R.mono (Fin.le_def.mpr (by simp; omega))))

/-- At most `t + 1` columns lie up to `t`. -/
theorem card_le (t : ℕ) (S : Finset (Fin n)) (h : ∀ s ∈ S, s.val ≤ t) : S.card ≤ t + 1 := by
  have := Finset.card_le_card (s := S.map Fin.valEmbedding) (t := Finset.range (t + 1)) (by
    intro a ha
    obtain ⟨s, hs, rfl⟩ := Finset.mem_map.mp ha
    exact Finset.mem_range.mpr (Nat.lt_succ_of_le (h s hs)))
  simpa using this

/-- In an early row every column up to the row is selected. -/
theorem early (R : Row n neg floor t f σ) (hn : 9 ≤ n) (ht : t < 8) (s : Fin n) (hs : s.val ≤ t) : ∃ i : Fin n, i.val < 8 ∧ σ i = s := by
  obtain ⟨j, rfl⟩ := R.surj s
  refine ⟨j, ?_, rfl⟩
  by_contra hj
  have h9 : (Finset.univ.map ⟨fun i : Fin 9 => (σ (if h : i.val < 8 then ⟨i.val, by omega⟩ else j)), by
      intro a b hab
      have := R.inj hab
      split at this <;> split at this <;> simp only [Fin.ext_iff] at this ⊢ <;> omega⟩).card ≤ t + 1 := by
    refine card_le t _ fun s h => ?_
    obtain ⟨i, -, rfl⟩ := Finset.mem_map.mp h
    refine R.le_of_lt (R.lt.trans_le ((R.inn _ hs).trans (R.mono ?_)))
    split
    · exact Fin.le_def.mpr (by simp; omega)
    · exact le_rfl
  rw [Finset.card_map, Finset.card_univ, Fintype.card_fin] at h9
  omega

theorem pick_iff_late (R : Row n neg floor t f σ) (hn : 9 ≤ n) (ht : 8 ≤ t) (s : Fin n) : pick n t σ s ↔ ∃ i : Fin n, i.val < 8 ∧ σ i = s :=
  ⟨fun h => h.2, fun h => ⟨by obtain ⟨i, hi, rfl⟩ := h; exact R.le_of_lt (R.top_lt hn ht hi), h⟩⟩

theorem pick_iff_early (R : Row n neg floor t f σ) (hn : 9 ≤ n) (ht : t < 8) (s : Fin n) : pick n t σ s ↔ s.val ≤ t :=
  ⟨fun h => h.1, fun h => ⟨h, R.early hn ht s h⟩⟩

/-- From row 8 on the rounds walk down the sorted row. -/
theorem rounds_eq (R : Row n neg floor t f σ) (hn : 9 ≤ n) (ht : 8 ≤ t) {W : ℕ} (hW : W ≤ n) (htW : t < W) {bot : EReal} (hb : bot ≤ neg)
    (k : ℕ) (hk : k < 8) : rounds bot neg (fun s : Fin W => f (s.castLE hW)) k = f (σ ⟨k, by omega⟩) := by
  induction k with
  | zero =>
    refine best_eq (hb.trans (R.neg_le _)) (fun s => ?_) ⟨⟨(σ ⟨0, by omega⟩).val, (R.le_of_lt (R.top_lt hn ht (by simp))).trans_lt htW⟩, rfl⟩
    obtain ⟨j, hj⟩ := R.surj (s.castLE hW)
    rw [← hj]; exact R.mono (Fin.le_def.mpr (Nat.zero_le _))
  | succ k ih =>
    have hs := R.strict ht ⟨k, by omega⟩ ⟨k + 1, by omega⟩ (by simp; omega) (by simp)
    show next bot neg _ (rounds _ _ _ k) = _
    rw [ih (by omega)]
    refine best_eq (g := fun s => if f (Fin.castLE hW s) < f (σ ⟨k, by omega⟩) then f (Fin.castLE hW s) else neg) (hb.trans (R.neg_le _)) (fun s => ?_)
      ⟨⟨(σ ⟨k + 1, by omega⟩).val, (R.le_of_lt (R.top_lt hn ht (by simpa using hk))).trans_lt htW⟩, ?_⟩
    · split
      · rename_i hlt
        obtain ⟨j, hj⟩ := R.surj (s.castLE hW)
        rw [← hj] at hlt ⊢
        refine R.mono (Fin.le_def.mpr ?_)
        by_contra hc
        exact absurd (hlt.trans_le (R.mono (i := j) (j := ⟨k, by omega⟩) (Fin.le_def.mpr (by simp at hc ⊢; omega)))) (lt_irrefl _)
      · exact R.neg_le _
    · exact if_pos hs

/-- The kernel keeps exactly the selected columns. -/
theorem kept_iff (R : Row n neg floor t f σ) (hn : 9 ≤ n) {W : ℕ} (hW : W ≤ n) (htW : t < W) {bot : EReal} (hb : bot ≤ neg) (s : Fin W) :
    kept bot neg floor (fun s : Fin W => f (s.castLE hW)) s ↔ pick n t σ (s.castLE hW) := by
  show max _ floor ≤ f (s.castLE hW) ↔ _
  by_cases ht : 8 ≤ t
  · rw [R.pick_iff_late hn ht, R.rounds_eq hn ht hW htW hb 7 (by norm_num),
      max_eq_left (R.inn _ (R.le_of_lt (R.top_lt hn ht (by simp))))]
    constructor
    · intro h
      obtain ⟨j, hj⟩ := R.surj (s.castLE hW)
      refine ⟨j, ?_, hj⟩
      by_contra hc
      rw [← hj] at h
      have h8 := R.strict ht ⟨7, by omega⟩ ⟨8, by omega⟩ (by simp) (by simp)
      exact absurd ((h.trans (R.mono (i := ⟨8, by omega⟩) (Fin.le_def.mpr (by simp; omega)))).trans_lt h8) (lt_irrefl _)
    · rintro ⟨i, hi, h⟩
      rw [← h]; exact R.mono (Fin.le_def.mpr (by simp; omega))
  · rw [R.pick_iff_early hn (by omega)]
    constructor
    · intro h
      exact R.le_of_lt (R.lt.trans_le ((le_max_right _ _).trans h))
    · intro h
      refine max_le ?_ (R.inn _ h)
      by_contra hc
      rw [not_le] at hc
      have hv := ((R.lt.trans_le (R.inn _ h)).trans hc)
      have h8 := rounds_card hb _ 7 hv
      have hle := card_le t (insert s (Finset.univ.filter fun a : Fin W => rounds bot neg (fun s : Fin W => f (s.castLE hW)) 7 ≤ f (a.castLE hW))) (by
        intro a ha
        rcases Finset.mem_insert.mp ha with rfl | ha
        · exact h
        · exact R.le_of_lt (s := a.castLE hW) (hv.trans_le (Finset.mem_filter.mp ha).2))
      rw [Finset.card_insert_of_notMem (by simp [hc])] at hle
      omega

open Classical in
/-- As many columns are selected as the row has, at most eight. -/
theorem pick_card (R : Row n neg floor t f σ) (hn : 9 ≤ n) (ht : t < n) :
    (Finset.univ.filter (pick n t σ)).card = min (t + 1) 8 := by
  by_cases h8 : 8 ≤ t
  · rw [min_eq_right (by omega), show Finset.univ.filter (pick n t σ) = Finset.univ.map ⟨fun i : Fin 8 => σ ⟨i.val, by omega⟩, by
      intro a b hab
      have := R.inj hab
      simpa [Fin.ext_iff] using this⟩ from ?_]
    · simp
    · ext s
      simp only [Finset.mem_filter, Finset.mem_univ, true_and, Finset.mem_map, Function.Embedding.coeFn_mk, R.pick_iff_late hn h8]
      exact ⟨fun ⟨i, hi, h⟩ => ⟨⟨i.val, hi⟩, h⟩, fun ⟨i, h⟩ => ⟨⟨i.val, by omega⟩, i.isLt, h⟩⟩
  · rw [min_eq_left (by omega), show Finset.univ.filter (pick n t σ) = Finset.univ.map (Fin.castLEEmb (by omega : t + 1 ≤ n)) from ?_]
    · simp
    · ext s
      simp only [Finset.mem_filter, Finset.mem_univ, true_and, Finset.mem_map, R.pick_iff_early hn (show t < 8 by omega)]
      exact ⟨fun h => ⟨⟨s.val, by omega⟩, Fin.ext rfl⟩, fun ⟨i, h⟩ => by
        have h1 : i.val = s.val := congrArg Fin.val h
        have h2 := i.isLt
        omega⟩

open Classical in
/-- A sum over the selected columns of a narrow block of the row is the sum over the whole row. -/
theorem sum_eq (R : Row n neg floor t f σ) (hn : 9 ≤ n) {W : ℕ} (hW : W ≤ n) (htW : t < W) {bot : EReal} (hb : bot ≤ neg) (x : Fin n → EReal) :
    ∑ s : Fin W, (if kept bot neg floor (fun s : Fin W => f (s.castLE hW)) s then (1 : EReal) else 0) * x (s.castLE hW)
      = ∑ s : Fin n, (if pick n t σ s then (1 : EReal) else 0) * x s := by
  simp only [R.kept_iff hn hW htW hb]
  refine (Finset.sum_map Finset.univ (Fin.castLEEmb hW) (fun s => (if pick n t σ s then (1 : EReal) else 0) * x s)).symm.trans ?_
  refine Finset.sum_subset (Finset.subset_univ _) fun s _ hs => ?_
  have : ¬ pick n t σ s := fun h => hs (Finset.mem_map.mpr ⟨⟨s.val, h.1.trans_lt htW⟩, Finset.mem_univ _, rfl⟩)
  rw [if_neg this, zero_mul]

open Classical in
/-- The selected columns, counted as a sum of ones. -/
theorem sum_one (R : Row n neg floor t f σ) (hn : 9 ≤ n) (ht : t < n) :
    ∑ s : Fin n, (if pick n t σ s then (1 : EReal) else 0) = ((min (t + 1) 8 : ℕ) : EReal) := by
  rw [← R.pick_card hn ht, Finset.sum_boole]

end Row

end Cert.Sel

end
-- ==== Proof.Spec.lean ====
/- What both programs compute, element by element, over the extended reals: the masked scores of a row, the columns
   that the row selects, and the value of one output. -/
module

public import proofs.«01_k».proof.Proof.TopEight
public import Idealize.ShloMosaic.Lib.Pointwise
public import Idealize.ShloMosaic.Lib.SortFacts
public import Idealize.ShloMosaic.PureOps.Ideal.Laws

@[expose] public section

set_option maxRecDepth 16384

noncomputable section

namespace Cert.Sel

open Idealize.ShloMosaic

/-- The value of a score that the mask hides. -/
abbrev neg : EReal := Ideal.ofBits .f32 0xFF7FFFFF#32
/-- The least score that the kernel takes for a real one. -/
abbrev floor : EReal := Ideal.ofBits .f32 0xFCF0BDC2#32
/-- The value above which the reference takes a score for a real one. -/
abbrev half : EReal := Ideal.ofBits .f32 0xFEFFFFFF#32
/-- The start value of a maximum. -/
abbrev bot : EReal := Ideal.ofBits .f32 0xFF800000#32

theorem bot_eq : bot = ⊥ := by simp [Ideal.ofBits, Ideal.ieee]
theorem bot_le_neg : bot ≤ neg := bot_eq ▸ _root_.bot_le
theorem neg_eq : neg = ((-340282346638528859811704183484516925440 : ℝ) : EReal) := by
  simp [Ideal.ofBits, Ideal.ieee, -EReal.coe_mul]; norm_num
theorem half_eq : half = ((-170141173319264429905852091742258462720 : ℝ) : EReal) := by
  simp [Ideal.ofBits, Ideal.ieee, -EReal.coe_mul]; norm_num
theorem floor_eq : ∃ r : ℝ, floor = ((r : ℝ) : EReal) ∧ -10000000000000000000000000000000000000 < r := by
  refine ⟨_, by simp [Ideal.ofBits, Ideal.ieee, -EReal.coe_mul]; rfl, ?_⟩; norm_num
theorem neg_lt_half : neg < half := by
  rw [neg_eq, half_eq]; exact_mod_cast (by norm_num : (-340282346638528859811704183484516925440 : ℝ) < -170141173319264429905852091742258462720)
theorem half_lt_floor : half < floor := by
  obtain ⟨r, h, hr⟩ := floor_eq
  rw [h, half_eq]; exact_mod_cast (by linarith : (-170141173319264429905852091742258462720 : ℝ) < r)

abbrev SX : Shape := ⟨3, ![2, 4096, 768]⟩
abbrev SM : Shape := ⟨3, ![2, 4096, 4096]⟩

/-- The scores of row `t` against every column, those past the row masked. -/
def row (x : FVec Ideal SX .f32) (b : Fin 2) (t : Fin 4096) (s : Fin 4096) : EReal :=
  if s.val ≤ t.val then ∑ k : Fin 768, x (ix3 b t k) * x (ix3 b s k) else neg

/-- The masked scores as an array. -/
def masked (x : FVec Ideal SX .f32) : FVec Ideal SM .f32 := fun j => row x (j 0) (j 1) (j 2)

/-- The columns of a row in the order of falling scores, equal ones by column. -/
def perm (x : FVec Ideal SX .f32) (b : Fin 2) (t : Fin 4096) : Fin 4096 → Fin 4096 :=
  sortedFrom fun a c => (FloatOps.cmpfTotal (F := Ideal) (φ := .f32) .gt (row x b t a) (row x b t c)) == 1#1

open Classical in
/-- The adjacency: one at the selected columns. -/
def adj (x : FVec Ideal SX .f32) (b : Fin 2) (t s : Fin 4096) : EReal := if Row.pick 4096 t.val (perm x b t) s then 1 else 0

/-- One output from what it depends on. -/
def gate (mix scale gain bias root x msg deg : EReal) : EReal :=
  Ideal.ofBits .f32 0x3F000000#32 * ((mix * x + (1 - mix) * Ideal.div msg deg) * gain + bias)
    * (1 + Ideal.erf (Ideal.div ((mix * x + (1 - mix) * Ideal.div msg deg) * gain + bias) root)) * scale

/-- Output `d` of row `t`. -/
def out (x : FVec Ideal SX .f32) (gain bias : Fin 768 → EReal) (mix scale : EReal) (b : Fin 2) (t : Fin 4096) (d : Fin 768) : EReal :=
  gate mix scale (gain d) (bias d) ((Real.sqrt 2 : ℝ) : EReal) (x (ix3 b t d)) (∑ s : Fin 4096, adj x b t s * x (ix3 b s d))
    ((min (t.val + 1) 8 : ℕ) : EReal)

theorem perm_inj (x : FVec Ideal SX .f32) (b : Fin 2) (t : Fin 4096) : Function.Injective (perm x b t) := sortedFrom_injective _
theorem perm_surj (x : FVec Ideal SX .f32) (b : Fin 2) (t : Fin 4096) : Function.Surjective (perm x b t) := sortedFrom_surjective _

theorem gt_iff (a c : EReal) : ((FloatOps.cmpfTotal (F := Ideal) (φ := .f32) .gt a c) == 1#1) = decide (c < a) := by
  show (BitVec.ofBool (decide (c < a)) == 1#1) = _
  by_cases h : c < a <;> simp [h]

/-- Along that order the scores never rise. -/
theorem perm_sorted (x : FVec Ideal SX .f32) (b : Fin 2) (t : Fin 4096) (i j : Fin 4096) (h : i < j) :
    row x b t (perm x b t j) ≤ row x b t (perm x b t i) := by
  have := sortedFrom_noInversion (fun a c => decide (row x b t c < row x b t a))
    (fun a c => (FloatOps.cmpfTotal (F := Ideal) (φ := .f32) .gt (row x b t a) (row x b t c)) == 1#1)
    (fun a c hac => by rw [gt_iff] at hac; simpa using (of_decide_eq_true hac).le)
    (fun a c hac => by rw [gt_iff]; exact hac)
    (fun a c e h1 h2 => by
      simp only [decide_eq_false_iff_not, not_lt] at h1 h2 ⊢; exact h1.trans h2) i j h
  exact not_lt.mp (of_decide_eq_false this)

/-- The first `k` places of the last axis. -/
theorem slice_apply {α : Type} {A N M : ℕ} (v : (⟨3, ![A, N, M]⟩ : Shape).Idx → α) (k : ℕ) (hk : k ≤ M)
    (h : (⟨3, ![A, N, M]⟩ : Shape).Slices (fun _ => 0) ⟨3, ![A, N, k]⟩) (b : Fin A) (t : Fin N)
    (i : Fin k) : extractStridedSlice (⟨3, ![A, N, k]⟩ : Shape) (fun _ => 0) v h (ix3 b t i) = v (ix3 b t (i.castLE hk)) := by
  refine congrArg v (funext fun a => Fin.ext ?_)
  match a with
  | ⟨0, _⟩ => exact Nat.zero_add _
  | ⟨1, _⟩ => exact Nat.zero_add _
  | ⟨2, _⟩ => exact Nat.zero_add _

theorem along_eq {A N M : ℕ} (b : Fin A) (t : Fin N) (s k : Fin M) :
    Shape.Idx.along (s := ⟨3, ![A, N, M]⟩) (ix3 b t s) (2 : Fin 3) k = ix3 b t k := by
  funext a
  match a with
  | ⟨0, _⟩ => rfl
  | ⟨1, _⟩ => rfl
  | ⟨2, _⟩ => rfl

/-- A two-operand sort along the last of three axes, read at an index. -/
theorem sort_apply {A N M : ℕ} {α β : Type} (gt : α → α → BitVec 1) (v : (⟨3, ![A, N, M]⟩ : Shape).Idx → α) (y : (⟨3, ![A, N, M]⟩ : Shape).Idx → β)
    (b : Fin A) (t : Fin N) (s : Fin M) :
    (Host.sort2 (⟨3, ![A, N, M]⟩ : Shape) 2 (fun l r => gt l.1 r.1) v y).1 (ix3 b t s)
        = v (ix3 b t (sortedFrom (fun k k' => gt (v (ix3 b t k)) (v (ix3 b t k')) == 1#1) s))
    ∧ (Host.sort2 (⟨3, ![A, N, M]⟩ : Shape) 2 (fun l r => gt l.1 r.1) v y).2 (ix3 b t s)
        = y (ix3 b t (sortedFrom (fun k k' => gt (v (ix3 b t k)) (v (ix3 b t k')) == 1#1) s)) := by
  have e : (fun k k' : Fin M => gt (v (Shape.Idx.along (s := ⟨3, ![A, N, M]⟩) (ix3 b t s) (2 : Fin 3) k))
      (v (Shape.Idx.along (s := ⟨3, ![A, N, M]⟩) (ix3 b t s) (2 : Fin 3) k')) == 1#1)
      = fun k k' => gt (v (ix3 b t k)) (v (ix3 b t k')) == 1#1 := by
    funext k k'; rw [along_eq, along_eq]
  exact ⟨(congrArg (fun r => v (Shape.Idx.along (s := ⟨3, ![A, N, M]⟩) (ix3 b t s) (2 : Fin 3) (sortedFrom (n := M) r s))) e).trans
      (congrArg v (along_eq b t s _)),
    (congrArg (fun r => y (Shape.Idx.along (s := ⟨3, ![A, N, M]⟩) (ix3 b t s) (2 : Fin 3) (sortedFrom (n := M) r s))) e).trans
      (congrArg y (along_eq b t s _))⟩

/-- The greatest along the last of three axes, and their columns, read at an index. -/
theorem topK_apply {A N M : ℕ} {α : Type} (gt : α → α → BitVec 1) (v : (⟨3, ![A, N, M]⟩ : Shape).Idx → α) (k : ℕ) (hk : k ≤ M)
    (h : (⟨3, ![A, N, M]⟩ : Shape).Slices (fun _ => 0) ⟨3, ![A, N, k]⟩) (b : Fin A) (t : Fin N) (i : Fin k) :
    (Host.topK (⟨3, ![A, N, k]⟩ : Shape) 2 gt v h).1 (ix3 b t i)
        = v (ix3 b t (sortedFrom (fun k k' => gt (v (ix3 b t k)) (v (ix3 b t k')) == 1#1) (i.castLE hk)))
    ∧ (Host.topK (⟨3, ![A, N, k]⟩ : Shape) 2 gt v h).2 (ix3 b t i)
        = BitVec.ofNat 32 (sortedFrom (fun k k' => gt (v (ix3 b t k)) (v (ix3 b t k')) == 1#1) (i.castLE hk)).val :=
  ⟨(slice_apply _ k hk h b t i).trans (sort_apply gt v (fun i => if hd : 2 < (⟨3, ![A, N, M]⟩ : Shape).rank then iotaInDim (⟨3, ![A, N, M]⟩ : Shape) 32 ⟨2, hd⟩ i else 0#32) b t _).1, (slice_apply _ k hk h b t i).trans ((sort_apply gt v
    (fun i => if hd : 2 < (⟨3, ![A, N, M]⟩ : Shape).rank then iotaInDim (⟨3, ![A, N, M]⟩ : Shape) 32 ⟨2, hd⟩ i else 0#32) b t _).2.trans rfl)⟩

theorem perm_eq (x : FVec Ideal SX .f32) (b : Fin 2) (t : Fin 4096) :
    sortedFrom (fun k k' => (FloatOps.cmpfTotal (F := Ideal) (φ := .f32) .gt) (masked x (ix3 b t k)) (masked x (ix3 b t k')) == 1#1) = perm x b t := rfl

/-- The `k` greatest of the masked scores: the `i`-th is the score of the `i`-th column in order. -/
theorem topK_fst (x : FVec Ideal SX .f32) (k : ℕ) (hk : k ≤ 4096) (h : SM.Slices (fun _ => 0) ⟨3, ![2, 4096, k]⟩) (b : Fin 2) (t : Fin 4096) (i : Fin k) :
    (Host.topK (⟨3, ![2, 4096, k]⟩ : Shape) 2 (FloatOps.cmpfTotal (F := Ideal) (φ := .f32) .gt) (masked x) h).1 (ix3 b t i)
      = row x b t (perm x b t (i.castLE hk)) := by
  rw [← perm_eq]; exact (topK_apply (FloatOps.cmpfTotal (F := Ideal) (φ := .f32) .gt) (masked x) k hk h b t i).1

/-- … and its index is that column. -/
theorem topK_snd (x : FVec Ideal SX .f32) (k : ℕ) (hk : k ≤ 4096) (h : SM.Slices (fun _ => 0) ⟨3, ![2, 4096, k]⟩) (b : Fin 2) (t : Fin 4096) (i : Fin k) :
    (Host.topK (⟨3, ![2, 4096, k]⟩ : Shape) 2 (FloatOps.cmpfTotal (F := Ideal) (φ := .f32) .gt) (masked x) h).2 (ix3 b t i)
      = BitVec.ofNat 32 (perm x b t (i.castLE hk)).val := by
  rw [← perm_eq]; exact (topK_apply (FloatOps.cmpfTotal (F := Ideal) (φ := .f32) .gt) (masked x) k hk h b t i).2

end Cert.Sel

end
-- ==== Proof.RefAdj.lean ====
/- The reference's adjacency, read at an element: one at the columns that the row selects. -/
module

public import proofs.«01_k».proof.Proof.RefTerms
public import proofs.«01_k».proof.Proof.Spec
public import Idealize.ShloMosaic.Lib.Tactic.WordOmega
public import Idealize.ShloMosaic.Lib.Routing.OpsPair
public import Idealize.ShloMosaic.Lib.Routing.OpsSet

@[expose] public section

set_option maxRecDepth 16384

noncomputable section

namespace Cert.ReferenceIdeal.Value

open Cert.ReferenceIdeal Cert.ReferenceIdeal.Gen Idealize.ShloMosaic Cert.Sel

/-- Whether a bit that a test made is set. -/
theorem select_ofBool {α : Type} (p : Bool) (a b : α) : Scalar.select (BitVec.ofBool p) a b = if p = true then a else b := by
  cases p <;> rfl

theorem toInt_small (a : ℕ) (ha : a < 8192) : (BitVec.ofNat 32 a).toInt = (a : ℤ) := by
  rw [BitVec.toInt_ofNat', Int.bmod_def]; omega

/-- Signed comparison of two small words is comparison of the numbers. -/
theorem sle_small (a b : ℕ) (ha : a < 8192) (hb : b < 8192) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle_eq_decide, toInt_small a ha, toInt_small b hb]
  simp

theorem maskedT_eq (x : FVec Ideal S2x4096x768 .f32) : maskedT x = masked x := by
  funext j
  idx_vars j
  pointwise [maskedT]
  rw [sle_small _ _ (by omega) (by omega), select_ofBool]
  show _ = row x j0 j1 j2
  simp only [row, decide_eq_true_eq]

theorem indexT_apply0 (x : FVec Ideal S2x4096x768 .f32) (b : Fin 2) (t : Fin 4096) (i : Fin 8) : indexT x (ix4 b t i 0) = BitVec.ofNat 32 b.val := by
  pointwise [indexT]
  exact Routing.wrap_of_lt _ _ (by rw [BitVec.toNat_ofNat]; omega)

theorem indexT_apply1 (x : FVec Ideal S2x4096x768 .f32) (b : Fin 2) (t : Fin 4096) (i : Fin 8) : indexT x (ix4 b t i 1) = BitVec.ofNat 32 t.val := by
  pointwise [indexT]
  exact Routing.wrap_of_lt _ _ (by rw [BitVec.toNat_ofNat]; omega)

theorem indexT_apply2 (x : FVec Ideal S2x4096x768 .f32) (b : Fin 2) (t : Fin 4096) (i : Fin 8) :
    indexT x (ix4 b t i 2) = BitVec.ofNat 32 (perm x b t (i.castLE (by norm_num))).val := by
  have e : (topT x).2 (ix3 b t i) = BitVec.ofNat 32 (perm x b t (i.castLE (by norm_num))).val := by
    unfold topT
    rw [maskedT_eq]
    exact topK_snd x 8 (by norm_num) _ b t i
  pointwise [indexT]
  rw [e]
  exact Routing.wrap_of_lt _ _ (by rw [BitVec.toNat_ofNat]; omega)

theorem markT_apply (x : FVec Ideal S2x4096x768 .f32) (b : Fin 2) (t : Fin 4096) (i : Fin 8) :
    markT x (ix3 b t i) = if half < row x b t (perm x b t (i.castLE (by norm_num))) then 1 else 0 := by
  pointwise [markT, topT]
  rw [maskedT_eq, topK_fst x 8 (by norm_num) _ b t i]
  by_cases h : half < row x b t (perm x b t (i.castLE (by norm_num)))
  · rw [if_pos h, decide_eq_true h]
    show (((1 : ℕ) : ℝ) : EReal) = 1
    simp
  · rw [if_neg h, decide_eq_false h]
    show (((0 : ℕ) : ℝ) : EReal) = 0
    simp

/-- Where a mark starts: at the three numbers of its index. -/
theorem start0 (idx : IVec S2x4096x8x3 32) (b : Fin 2) (t : Fin 4096) (i : Fin 8) :
    scatter_S2x4096x4096_S2x4096x8x3_S2x4096x8_n_012_012_3.start (ix3 b t i) idx 0 = (idx (ix4 b t i 0)).toInt := by
  refine congrArg (fun k => (idx k).toInt) (funext fun a => ?_)
  match a with
  | ⟨0, _⟩ => rfl
  | ⟨1, _⟩ => rfl
  | ⟨2, _⟩ => rfl
  | ⟨3, _⟩ => rfl

theorem start1 (idx : IVec S2x4096x8x3 32) (b : Fin 2) (t : Fin 4096) (i : Fin 8) :
    scatter_S2x4096x4096_S2x4096x8x3_S2x4096x8_n_012_012_3.start (ix3 b t i) idx 1 = (idx (ix4 b t i 1)).toInt := by
  refine congrArg (fun k => (idx k).toInt) (funext fun a => ?_)
  match a with
  | ⟨0, _⟩ => rfl
  | ⟨1, _⟩ => rfl
  | ⟨2, _⟩ => rfl
  | ⟨3, _⟩ => rfl

theorem start2 (idx : IVec S2x4096x8x3 32) (b : Fin 2) (t : Fin 4096) (i : Fin 8) :
    scatter_S2x4096x4096_S2x4096x8x3_S2x4096x8_n_012_012_3.start (ix3 b t i) idx 2 = (idx (ix4 b t i 2)).toInt := by
  refine congrArg (fun k => (idx k).toInt) (funext fun a => ?_)
  match a with
  | ⟨0, _⟩ => rfl
  | ⟨1, _⟩ => rfl
  | ⟨2, _⟩ => rfl
  | ⟨3, _⟩ => rfl

theorem window_zero (b : Fin 2) (t : Fin 4096) (i : Fin 8) (a : Fin 3) :
    scatter_S2x4096x4096_S2x4096x8x3_S2x4096x8_n_012_012_3.window (ix3 b t i) a = 0 := by
  match a with
  | ⟨0, _⟩ => rfl
  | ⟨1, _⟩ => rfl
  | ⟨2, _⟩ => rfl

/-- A mark lands at the element that its index names. -/
theorem lands_of (idx : IVec S2x4096x8x3 32) (b : Fin 2) (t : Fin 4096) (i : Fin 8) (b' : Fin 2) (t' s : Fin 4096) :
    scatter_S2x4096x4096_S2x4096x8x3_S2x4096x8_n_012_012_3.resultIdx? (ix3 b t i) idx = some (ix3 b' t' s)
      ↔ (idx (ix4 b t i 0)).toInt = b'.val ∧ (idx (ix4 b t i 1)).toInt = t'.val ∧ (idx (ix4 b t i 2)).toInt = s.val := by
  rw [Routing.resultIdx?_eq_some, ← start0, ← start1, ← start2]
  constructor
  · intro h
    have h0 := h 0
    have h1 := h 1
    have h2 := h 2
    rw [window_zero] at h0 h1 h2
    rw [Nat.cast_zero, add_zero] at h0 h1 h2
    exact ⟨h0, h1, h2⟩
  · rintro ⟨h0, h1, h2⟩ a
    rw [window_zero, Nat.cast_zero, add_zero]
    match a with
    | ⟨0, _⟩ => exact h0
    | ⟨1, _⟩ => exact h1
    | ⟨2, _⟩ => exact h2

/-- Every mark lands at its batch, row and column. -/
theorem lands (x : FVec Ideal S2x4096x768 .f32) (b : Fin 2) (t : Fin 4096) (i : Fin 8) (b' : Fin 2) (t' s : Fin 4096) :
    scatter_S2x4096x4096_S2x4096x8x3_S2x4096x8_n_012_012_3.resultIdx? (ix3 b t i) (indexT x) = some (ix3 b' t' s)
      ↔ b = b' ∧ t = t' ∧ perm x b t (i.castLE (by norm_num)) = s := by
  rw [lands_of, indexT_apply0, indexT_apply1, indexT_apply2, toInt_small _ (by omega), toInt_small _ (by omega), toInt_small _ (by omega)]
  constructor
  · rintro ⟨h0, h1, h2⟩
    exact ⟨Fin.ext (by omega), Fin.ext (by omega), Fin.ext (by omega)⟩
  · rintro ⟨rfl, rfl, rfl⟩
    exact ⟨rfl, rfl, rfl⟩

open Classical in
/-- The adjacency has a one exactly at the columns that the row selects. -/
theorem adjT_apply (x : FVec Ideal S2x4096x768 .f32) (b : Fin 2) (t s : Fin 4096) (R : Row 4096 neg floor t.val (row x b t) (perm x b t)) :
    adjT x (ix3 b t s) = adj x b t s := by
  unfold adjT adj
  by_cases h : ∃ i : Fin 8, perm x b t (i.castLE (by norm_num)) = s
  · obtain ⟨i, hi⟩ := h
    refine Routing.scatter_set_hit _ _ _ _ _ _ ?_ (ix3 b t i) ((lands x b t i b t s).2 ⟨rfl, rfl, hi⟩)
    intro k hk
    idx_vars k
    obtain ⟨rfl, rfl, h3⟩ := (lands x _ _ _ b t s).1 hk
    rw [markT_apply, h3]
    by_cases hs : s.val ≤ k1.val
    · rw [if_pos (lt_of_lt_of_le half_lt_floor (R.inn s hs)), if_pos ⟨hs, _, k2.isLt, h3⟩]
    · rw [if_neg (by rw [R.out s (by omega)]; exact not_lt.2 neg_lt_half.le), if_neg (fun hp => hs hp.1)]
  · rw [Routing.scatter_set_miss, if_neg]
    · show Ideal.ofBits .f32 0#32 = 0
      exact Ideal.ofBits_zero .f32
    · rintro ⟨_, i, hi, hs⟩
      exact h ⟨⟨i.val, hi⟩, hs⟩
    · intro k hk
      idx_vars k
      exact h ⟨k2, ((lands x _ _ _ b t s).1 hk).1 ▸ ((lands x _ _ _ b t s).1 hk).2.1 ▸ ((lands x _ _ _ b t s).1 hk).2.2⟩

end Cert.ReferenceIdeal.Value

end
-- ==== Proof.IdealCommon.lean ====
/- What the four regions' readings share: the words and the numbers that a block computes for its rows. -/
module

public import proofs.«01_k».proof.Proof.RefAdj
public import proofs.«01_k».proof.KernelIdeal
public import Idealize.ShloMosaic.PureOps.Ideal.Laws

@[expose] public section

set_option maxRecDepth 16384

noncomputable section

namespace Cert.KernelIdeal.Value

open Cert.KernelIdeal Idealize.ShloMosaic Cert.Sel Cert.ReferenceIdeal.Value

/-- Row `r` of block `q` of the region that starts at row `c`. -/
theorem row_word (c q r : ℕ) :
    IntOp.addi (Scalar.addi (BitVec.ofNat 32 c) (Scalar.muli (BitVec.ofNat 32 q) 256#32)) (BitVec.ofNat 32 r) = BitVec.ofNat 32 (c + q * 256 + r) := by
  show BitVec.ofNat 32 c + BitVec.ofNat 32 q * BitVec.ofNat 32 256 + BitVec.ofNat 32 r = _
  rw [← BitVec.ofNat_mul, ← BitVec.ofNat_add, ← BitVec.ofNat_add]

/-- How many columns row `n` keeps. -/
theorem deg_word (n : ℕ) (hn : n < 4096) :
    (FloatOps.sitofp (F := Ideal) .f32 (IntOp.minsi (IntOp.addi (BitVec.ofNat 32 n) 1#32) 8#32) : EReal) = ((min (n + 1) 8 : ℕ) : EReal) := by
  have h : IntOp.minsi (IntOp.addi (BitVec.ofNat 32 n) 1#32) 8#32 = BitVec.ofNat 32 (min (n + 1) 8) := by
    show (if (BitVec.ofNat 32 n + BitVec.ofNat 32 1).slt (BitVec.ofNat 32 8) then BitVec.ofNat 32 n + BitVec.ofNat 32 1 else BitVec.ofNat 32 8) = _
    rw [← BitVec.ofNat_add, BitVec.slt_eq_decide, toInt_small _ (by omega), toInt_small _ (by omega)]
    by_cases h : n + 1 < 8
    · rw [if_pos (by simp; omega), min_eq_left (by omega)]
    · rw [if_neg (by simp; omega), min_eq_right (by omega)]
  rw [h]
  show (((BitVec.ofNat 32 (min (n + 1) 8)).toInt : ℝ) : EReal) = _
  rw [toInt_small _ (by omega)]
  generalize min (n + 1) 8 = k
  simp

open Classical in
/-- A test, read as a number. -/
theorem mask_word (p : Prop) [h : Decidable p] :
    (FloatOps.sitofp (F := Ideal) .f32 (BitVec.setWidth 32 (BitVec.ofBool (@decide p h))) : EReal) = @ite _ p h 1 0 := by
  by_cases hp : p
  · rw [decide_eq_true hp, if_pos hp]
    show (((1 : ℤ) : ℝ) : EReal) = 1
    simp
  · rw [decide_eq_false hp, if_neg hp]
    show (((0 : ℤ) : ℝ) : EReal) = 0
    simp

/-- Three products of a row's halves with a column's: only the first is left when the low halves vanish. -/
theorem three_products {n : ℕ} (u v p w : Fin n → EReal) (hv : ∀ k, v k = 0) (hw : ∀ k, w k = 0) :
    ∑ k, u k * p k + ∑ k, u k * w k + ∑ k, v k * p k = ∑ k, u k * p k := by
  rw [Finset.sum_congr rfl (fun k _ => show u k * w k = 0 by rw [hw, mul_zero]), Finset.sum_congr rfl (fun k _ => show v k * p k = 0 by rw [hv, zero_mul])]
  simp

/-- The named root of two. -/
theorem root_two : (Named.named (F := Ideal) (φ := .f32) κ "sqrt_two" 0x3FB504F3#32 : EReal) = ((Real.sqrt 2 : ℝ) : EReal) := by
  exact IdealRules.named_const.ideal_named_scalar κ "sqrt_two" _ _ rfl

end Cert.KernelIdeal.Value

end
-- ==== Proof.IdealBlock0.lean ====
/- Region 0: the block of results that one step computes, read at an element. -/
module

public import proofs.«01_k».proof.Proof.IdealCommon
public import proofs.«01_k».proof.Proof.IdealRegion0

@[expose] public section

set_option maxRecDepth 16384

noncomputable section

namespace Cert.KernelIdeal.Value

open Cert.KernelIdeal Cert.KernelIdeal.Run Cert.KernelIdeal.Gen Idealize.ShloMosaic Cert.Sel Cert.ReferenceIdeal.Value

/-- Row `r` of the step's block, as a row of the whole input. -/
def at0 (i : grid0.Coords) (r : Fin 256) : Fin 4096 := ⟨0 + (i 1).val * 256 + r.val, by have := (i 1).isLt; change (i 1).val < 4 at this; omega⟩

theorem at0_lt (i : grid0.Coords) (r : Fin 256) : (at0 i r).val < 1024 := by
  have := (i 1).isLt; change (i 1).val < 4 at this; show 0 + (i 1).val * 256 + r.val < _; omega

theorem score0 (i : grid0.Coords) (x2 x3 : Vec Ideal S1x256x768 .bf16) (x4 x5 : Vec Ideal S1x1024x768 .bf16) (x : FVec Ideal SX .f32) (b : Fin 2) (r : Fin 256)
    (h2 : ∀ d, x2 (ix3 0 r d) = x (ix3 b (at0 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal)) (s : Fin 1024) :
    k0_pay4 i x2 x3 x4 x5 (ix2 r s) = row x b (at0 i r) (s.castLE (by norm_num)) := by
  pointwise [k0_pay4, k0_pay3]
  have hlt := at0_lt i r
  rw [row_word 0 (i 1).val r.val, sle_small _ _ (by omega) (by show (at0 i r).val < _; omega), select_ofBool,
    three_products (fun k => x2 (ix3 0 r k)) (fun k => x3 (ix3 0 r k)) (fun k => x4 (ix3 0 s k)) (fun k => x5 (ix3 0 s k)) h3 (h5 s)]
  simp only [h2, h4, row, decide_eq_true_eq]
  rfl

theorem below0 (i : grid0.Coords) (x2 x3 : Vec Ideal S1x256x768 .bf16) (x4 x5 : Vec Ideal S1x1024x768 .bf16) (r : Fin 256) (s : Fin 1024) :
    k0_pay5 i x2 x3 x4 x5 (ix2 r s)
      = BitVec.ofBool (decide (k0_pay4 i x2 x3 x4 x5 (ix2 r s) < rounds bot neg (fun s => k0_pay4 i x2 x3 x4 x5 (ix2 r s)) 1)) := by
  pointwise [k0_pay5]
  rfl

open Classical in
theorem message0 (v7 : FVec Ideal S1024x768 .bf16) (v23 : FVec Ideal S256x1024 .f32) (v33 : IVec S256x1024 1) (r : Fin 256) (d : Fin 768)
    (h : ∀ s, v33 (ix2 r s) = BitVec.ofBool (decide (v23 (ix2 r s) < rounds bot neg (fun s => v23 (ix2 r s)) 1))) :
    k0_pay6 v7 v23 v33 (ix2 r d) = ∑ s, (if kept bot neg floor (fun s => v23 (ix2 r s)) s then 1 else 0) * v7 (ix2 s d) := by
  pointwise [k0_pay6]
  simp only [h, select_ofBool, mask_word, decide_eq_true_eq]
  exact Finset.sum_congr rfl fun s _ => congrArg (fun y : EReal => y * v7 (ix2 s d)) (if_congr Iff.rfl rfl rfl)

theorem gate0 (v1 : FVec Ideal S256x768 .f32) (v75 : FVec Ideal S256x768 .f32) (w : BitVec 32) (mix scale : Ideal .f32) (x6 x7 : Vec Ideal S768 .f32) (r : Fin 256) (d : Fin 768) (n : ℕ)
    (hn : n < 4096) (hw : IntOp.addi w (BitVec.ofNat 32 r.val) = BitVec.ofNat 32 n) :
    k0_pay1 v1 v75 w mix scale x6 x7 (ix3 0 r d)
      = gate mix scale (x6 (ix1 d)) (x7 (ix1 d)) ((Real.sqrt 2 : ℝ) : EReal) (v1 (ix2 r d)) (v75 (ix2 r d)) ((min (n + 1) 8 : ℕ) : EReal) := by
  pointwise [k0_pay1]
  rw [hw, deg_word n hn, root_two]
  rfl

/-- The block, at an element: the output of its row. -/
theorem blk0_apply (i : grid0.Coords) (x0 : Vec Ideal S2 .f32) (x1 : Vec Ideal S1x256x768 .f32) (x2 x3 : Vec Ideal S1x256x768 .bf16) (x4 x5 : Vec Ideal S1x1024x768 .bf16)
    (x6 x7 : Vec Ideal S768 .f32) (x : FVec Ideal SX .f32) (b : Fin 2) (r : Fin 256) (d : Fin 768)
    (h1 : ∀ d, x1 (ix3 0 r d) = x (ix3 b (at0 i r) d)) (h2 : ∀ d, x2 (ix3 0 r d) = x (ix3 b (at0 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal))
    (R : Row 4096 neg floor (at0 i r).val (row x b (at0 i r)) (perm x b (at0 i r))) :
    blk0 i x0 x1 x2 x3 x4 x5 x6 x7 (ix3 0 r d)
      = out x (fun d => x6 (ix1 d)) (fun d => x7 (ix1 d)) (x0 (ix1 0)) (x0 (ix1 1)) b (at0 i r) d := by
  unfold blk0 out
  rw [gate0 _ _ _ _ _ _ _ r d (at0 i r).val (at0 i r).isLt (row_word 0 (i 1).val r.val), message0 _ _ _ r d (below0 i x2 x3 x4 x5 r)]
  have e1 : k0_pay2 x1 (ix2 r d) = x (ix3 b (at0 i r) d) := by
    pointwise [k0_pay2]
    exact h1 d
  have e3 : ∀ s, k0_pay3 x4 (ix2 s d) = x (ix3 b (s.castLE (by norm_num)) d) := fun s => by
    pointwise [k0_pay3]
    exact h4 s d
  have e4 : (fun s => k0_pay4 i x2 x3 x4 x5 (ix2 r s)) = fun s : Fin 1024 => row x b (at0 i r) (s.castLE (by norm_num)) :=
    funext (score0 i x2 x3 x4 x5 x b r h2 h3 h4 h5)
  rw [e1, e4]
  simp only [e3]
  rw [R.sum_eq (by norm_num) (by norm_num) (at0_lt i r) bot_le_neg (fun s => x (ix3 b s d))]
  rfl

end Cert.KernelIdeal.Value

end
-- ==== Proof.IdealHost.lean ====
/- What the host leaves for the kernels: the input's two halves, and the two parameters. -/
module

public import proofs.«01_k».proof.Proof.IdealCommon
public import proofs.«01_k».proof.Proof.IdealLaunch
public import Idealize.ShloMosaic.Lib.StableHlo.ReadAt

@[expose] public section

set_option maxRecDepth 16384

noncomputable section

namespace Cert.KernelIdeal.Value

open Cert.KernelIdeal Cert.KernelIdeal.Run Cert.KernelIdeal.Gen Idealize.ShloMosaic Idealize.ShloMosaic.TcCoe Cert.Sel Cert.ReferenceIdeal.Value

variable (m : (ℓ : Loc nD τ sig) → Buf (Elt Ideal) ℓ)

/-- The input. -/
abbrev inp (c : Dev nD) : FVec Ideal SX .f32 := m ((c.tc : Thread nD τ).loc main_arg0)

theorem high_apply (c : Dev nD) (b : Fin 2) (t : Fin 4096) (d : Fin 768) :
    @Eq EReal (V1 m c main_call0_v9 (ix3 b t d)) (inp m c (ix3 b t d)) := by
  unfold V1
  after_reads_at

theorem low_apply (c : Dev nD) (b : Fin 2) (t : Fin 4096) (d : Fin 768) (h : ∃ r : ℝ, inp m c (ix3 b t d) = (r : EReal)) :
    @Eq EReal (V1 m c main_call0_v12 (ix3 b t d)) 0 := by
  unfold V1
  after_reads_at
  obtain ⟨r, hr⟩ := h
  change (inp m c (ix3 b t d) : EReal) - inp m c (ix3 b t d) = 0
  rw [hr, ← EReal.coe_sub, sub_self, EReal.coe_zero]

theorem mix_apply (c : Dev nD) : @Eq EReal (V1 m c main_call0_v8 (ix1 0)) (mixT (F := Ideal) (m ((c.tc : Thread nD τ).loc main_arg3)) ix0) := by
  unfold V1 mixT
  after_reads_at
  after_reads_at

theorem scale_apply (c : Dev nD) : @Eq EReal (V1 m c main_call0_v8 (ix1 1)) (scaleT (F := Ideal) (m ((c.tc : Thread nD τ).loc main_arg4)) ix0) := by
  unfold V1 scaleT
  after_reads_at
  after_reads_at

theorem inp_apply (c : Dev nD) : V1 m c main_arg0 = inp m c := V1_of m c main_arg0 (by decide)
theorem gain_apply (c : Dev nD) : V1 m c main_arg1 = m ((c.tc : Thread nD τ).loc main_arg1) := V1_of m c main_arg1 (by decide)
theorem bias_apply (c : Dev nD) : V1 m c main_arg2 = m ((c.tc : Thread nD τ).loc main_arg2) := V1_of m c main_arg2 (by decide)

/-- The output of row `t` of batch `b`, over the memory at launch. -/
def result (c : Dev nD) (b : Fin 2) (t : Fin 4096) (d : Fin 768) : EReal :=
  out (inp m c) (fun d => m ((c.tc : Thread nD τ).loc main_arg1) (ix1 d)) (fun d => m ((c.tc : Thread nD τ).loc main_arg2) (ix1 d))
    (mixT (F := Ideal) (m ((c.tc : Thread nD τ).loc main_arg3)) ix0) (scaleT (F := Ideal) (m ((c.tc : Thread nD τ).loc main_arg4)) ix0) b t d

/-- The rows from `1024 * k` on, as one region's array holds them. -/
def slab (c : Dev nD) (k : ℕ) (hk : k < 4) : FVec Ideal S2x1024x768 .f32 := fun j =>
  result m c (j 0) ⟨1024 * k + (j 1).val, by have := (j 1).isLt; change (j 1).val < 1024 at this; omega⟩ (j 2)

end Cert.KernelIdeal.Value

end
-- ==== Proof.IdealArray0.lean ====
/- Region 0: the array that its results are written back to, read at every element. -/
module

public import proofs.«01_k».proof.Proof.IdealBlock0
public import proofs.«01_k».proof.Proof.IdealHost
public import Idealize.ShloMosaic.Lib.Pipeline.ValueKit.Geometry

@[expose] public section

set_option maxRecDepth 16384

noncomputable section

namespace Cert.KernelIdeal.Value

open Cert.KernelIdeal Cert.KernelIdeal.Run Cert.KernelIdeal.Gen Idealize.ShloMosaic Idealize.ShloMosaic.TcCoe Cert.Sel Cert.ReferenceIdeal.Value
open Idealize.ShloMosaic.Pipeline (Dat Cfg Window)

/-- Which block each window reads at a step. -/
theorem index0_0 : ∀ t : Fin cfg0.N, win0_0.index t = ![0] := by decide +kernel
theorem index0_1 : ∀ t : Fin cfg0.N, win0_1.index t = ![(grid0.coords t 0).val, 0 + (grid0.coords t 1).val, 0] := by decide +kernel
theorem index0_2 : ∀ t : Fin cfg0.N, win0_2.index t = ![(grid0.coords t 0).val, 0 + (grid0.coords t 1).val, 0] := by decide +kernel
theorem index0_3 : ∀ t : Fin cfg0.N, win0_3.index t = ![(grid0.coords t 0).val, 0 + (grid0.coords t 1).val, 0] := by decide +kernel
theorem index0_4 : ∀ t : Fin cfg0.N, win0_4.index t = ![(grid0.coords t 0).val, 0, 0] := by decide +kernel
theorem index0_5 : ∀ t : Fin cfg0.N, win0_5.index t = ![(grid0.coords t 0).val, 0, 0] := by decide +kernel
theorem index0_6 : ∀ t : Fin cfg0.N, win0_6.index t = ![0] := by decide +kernel
theorem index0_7 : ∀ t : Fin cfg0.N, win0_7.index t = ![0] := by decide +kernel
theorem index0_8 : ∀ t : Fin cfg0.N, win0_8.index t = ![(grid0.coords t 0).val, (grid0.coords t 1).val, 0] := by decide +kernel

variable (V : (c : Dev nD) → Valuation τ sig (Elt Ideal))

/-- The batch of a step. -/
abbrev bat0 (t : Fin cfg0.N) : Fin 2 := grid0.coords t 0

theorem staged0_0 (c : Dev nD) (t : Fin cfg0.N) (k : Fin 2) : stg0 V c 0 t (ix1 k) = V c main_call0_v8 (ix1 k) := by
  refine congrArg (V c main_call0_v8) ?_
  blk_ext [index0_0]

theorem staged0_1 (c : Dev nD) (t : Fin cfg0.N) (r : Fin 256) (d : Fin 768) :
    stg0 V c 1 t (ix3 0 r d) = V c main_arg0 (ix3 (bat0 t) (at0 (grid0.coords t) r) d) := by
  refine congrArg (V c main_arg0) ?_
  blk_ext [bat0, index0_1, at0]

theorem staged0_2 (c : Dev nD) (t : Fin cfg0.N) (r : Fin 256) (d : Fin 768) :
    stg0 V c 2 t (ix3 0 r d) = V c main_call0_v9 (ix3 (bat0 t) (at0 (grid0.coords t) r) d) := by
  refine congrArg (V c main_call0_v9) ?_
  blk_ext [bat0, index0_2, at0]

theorem staged0_3 (c : Dev nD) (t : Fin cfg0.N) (r : Fin 256) (d : Fin 768) :
    stg0 V c 3 t (ix3 0 r d) = V c main_call0_v12 (ix3 (bat0 t) (at0 (grid0.coords t) r) d) := by
  refine congrArg (V c main_call0_v12) ?_
  blk_ext [bat0, index0_3, at0]

theorem staged0_4 (c : Dev nD) (t : Fin cfg0.N) (s : Fin 1024) (d : Fin 768) :
    stg0 V c 4 t (ix3 0 s d) = V c main_call0_v9 (ix3 (bat0 t) (s.castLE (by norm_num)) d) := by
  refine congrArg (V c main_call0_v9) ?_
  blk_ext [bat0, index0_4]
  all_goals rfl

theorem staged0_5 (c : Dev nD) (t : Fin cfg0.N) (s : Fin 1024) (d : Fin 768) :
    stg0 V c 5 t (ix3 0 s d) = V c main_call0_v12 (ix3 (bat0 t) (s.castLE (by norm_num)) d) := by
  refine congrArg (V c main_call0_v12) ?_
  blk_ext [bat0, index0_5]
  all_goals rfl

theorem staged0_6 (c : Dev nD) (t : Fin cfg0.N) (d : Fin 768) : stg0 V c 6 t (ix1 d) = V c main_arg1 (ix1 d) := by
  refine congrArg (V c main_arg1) ?_
  blk_ext [index0_6]

theorem staged0_7 (c : Dev nD) (t : Fin cfg0.N) (d : Fin 768) : stg0 V c 7 t (ix1 d) = V c main_arg2 (ix1 d) := by
  refine congrArg (V c main_arg2) ?_
  blk_ext [index0_7]

variable (m : (ℓ : Loc nD τ sig) → Buf (Elt Ideal) ℓ)

/-- The block of one step, at an element: the output of its row. -/
theorem step0 (c : Dev nD) (t : Fin cfg0.N) (r : Fin 256) (d : Fin 768)
    (hx : ∀ b s d, ∃ y : ℝ, inp m c (ix3 b s d) = (y : EReal)) (R : ∀ b s, Row 4096 neg floor s.val (row (inp m c) b s) (perm (inp m c) b s)) :
    out0 (V1 m) c t (ix3 0 r d) = result m c (bat0 t) (at0 (grid0.coords t) r) d := by
  refine (blk0_apply (grid0.coords t) _ _ _ _ _ _ _ _ (inp m c) (bat0 t) r d ?_ ?_ ?_ ?_ ?_ (R _ _)).trans ?_
  · intro d
    rw [staged0_1, inp_apply]
  · intro d
    rw [staged0_2]
    exact high_apply m c _ _ _
  · intro d
    rw [staged0_3]
    exact low_apply m c _ _ _ (hx _ _ _)
  · intro s d
    rw [staged0_4]
    exact high_apply m c _ _ _
  · intro s d
    rw [staged0_5]
    exact low_apply m c _ _ _ (hx _ _ _)
  · unfold result
    refine congr (congr (congr (congr (congr (congr (congrArg (out (inp m c)) (funext fun d => ?_)) (funext fun d => ?_)) ?_) ?_) rfl) rfl) rfl
    · rw [staged0_6, gain_apply]
    · rw [staged0_7, bias_apply]
    · rw [staged0_0]
      exact mix_apply m c
    · rw [staged0_0]
      exact scale_apply m c

/-- The region's array. -/
theorem array0 (c : Dev nD)
    (hx : ∀ b s d, ∃ y : ℝ, inp m c (ix3 b s d) = (y : EReal)) (R : ∀ b s, Row 4096 neg floor s.val (row (inp m c) b s) (perm (inp m c) b s)) :
    (dat0 (V1 m) c).arrAt 8 cfg0.N = slab m c 0 (by norm_num) := by
  refine (dat0 (V1 m) c).arrAt_eq_of_covers 8 _ (by decide +kernel) fun t hf y => ?_
  have e : ∃ (r : Fin 256) (d : Fin 768), y = ix3 0 r d := ⟨y 1, y 2, by
    funext a
    match a with
    | ⟨0, _⟩ => exact Subsingleton.elim (α := Fin 1) _ _
    | ⟨1, _⟩ => rfl
    | ⟨2, _⟩ => rfl⟩
  obtain ⟨r, d, rfl⟩ := e
  have e : ((cfg0.win 8).blk t).view.emb (ix3 0 r d) = (ix3 (bat0 t) ⟨(grid0.coords t 1).val * 256 + r.val, by
      have := (grid0.coords t 1).isLt; change (grid0.coords t 1).val < 4 at this; omega⟩ d : S2x1024x768.Idx) := by
    blk_ext [bat0, index0_8]
  rw [e]
  refine (step0 m c t r d hx R).trans ?_
  refine congrArg (fun s => result m c (bat0 t) s d) (Fin.ext ?_)
  show 0 + _ * 256 + r.val = 0 + (_ * 256 + r.val)
  omega

end Cert.KernelIdeal.Value

end
-- ==== Proof.IdealBlock1.lean ====
/- Region 1: the block of results that one step computes, read at an element. -/
module

public import proofs.«01_k».proof.Proof.IdealCommon
public import proofs.«01_k».proof.Proof.IdealRegion1

@[expose] public section

set_option maxRecDepth 16384

noncomputable section

namespace Cert.KernelIdeal.Value

open Cert.KernelIdeal Cert.KernelIdeal.Run Cert.KernelIdeal.Gen Idealize.ShloMosaic Cert.Sel Cert.ReferenceIdeal.Value

/-- Row `r` of the step's block, as a row of the whole input. -/
def at1 (i : grid1.Coords) (r : Fin 256) : Fin 4096 := ⟨1024 + (i 1).val * 256 + r.val, by have := (i 1).isLt; change (i 1).val < 4 at this; omega⟩

theorem at1_lt (i : grid1.Coords) (r : Fin 256) : (at1 i r).val < 2048 := by
  have := (i 1).isLt; change (i 1).val < 4 at this; show 1024 + (i 1).val * 256 + r.val < _; omega

theorem score1 (i : grid1.Coords) (x2 x3 : Vec Ideal S1x256x768 .bf16) (x4 x5 : Vec Ideal S1x2048x768 .bf16) (x : FVec Ideal SX .f32) (b : Fin 2) (r : Fin 256)
    (h2 : ∀ d, x2 (ix3 0 r d) = x (ix3 b (at1 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal)) (s : Fin 2048) :
    k1_pay4 i x2 x3 x4 x5 (ix2 r s) = row x b (at1 i r) (s.castLE (by norm_num)) := by
  pointwise [k1_pay4, k1_pay3]
  have hlt := at1_lt i r
  rw [row_word 1024 (i 1).val r.val, sle_small _ _ (by omega) (by show (at1 i r).val < _; omega), select_ofBool,
    three_products (fun k => x2 (ix3 0 r k)) (fun k => x3 (ix3 0 r k)) (fun k => x4 (ix3 0 s k)) (fun k => x5 (ix3 0 s k)) h3 (h5 s)]
  simp only [h2, h4, row, decide_eq_true_eq]
  rfl

theorem below1 (i : grid1.Coords) (x2 x3 : Vec Ideal S1x256x768 .bf16) (x4 x5 : Vec Ideal S1x2048x768 .bf16) (r : Fin 256) (s : Fin 2048) :
    k1_pay5 i x2 x3 x4 x5 (ix2 r s)
      = BitVec.ofBool (decide (k1_pay4 i x2 x3 x4 x5 (ix2 r s) < rounds bot neg (fun s => k1_pay4 i x2 x3 x4 x5 (ix2 r s)) 1)) := by
  pointwise [k1_pay5]
  rfl

open Classical in
theorem message1 (v7 : FVec Ideal S2048x768 .bf16) (v23 : FVec Ideal S256x2048 .f32) (v33 : IVec S256x2048 1) (r : Fin 256) (d : Fin 768)
    (h : ∀ s, v33 (ix2 r s) = BitVec.ofBool (decide (v23 (ix2 r s) < rounds bot neg (fun s => v23 (ix2 r s)) 1))) :
    k1_pay6 v7 v23 v33 (ix2 r d) = ∑ s, (if kept bot neg floor (fun s => v23 (ix2 r s)) s then 1 else 0) * v7 (ix2 s d) := by
  pointwise [k1_pay6]
  simp only [h, select_ofBool, mask_word, decide_eq_true_eq]
  exact Finset.sum_congr rfl fun s _ => congrArg (fun y : EReal => y * v7 (ix2 s d)) (if_congr Iff.rfl rfl rfl)

theorem gate1 (v1 : FVec Ideal S256x768 .f32) (v75 : FVec Ideal S256x768 .f32) (w : BitVec 32) (mix scale : Ideal .f32) (x6 x7 : Vec Ideal S768 .f32) (r : Fin 256) (d : Fin 768) (n : ℕ)
    (hn : n < 4096) (hw : IntOp.addi w (BitVec.ofNat 32 r.val) = BitVec.ofNat 32 n) :
    k1_pay1 v1 v75 w mix scale x6 x7 (ix3 0 r d)
      = gate mix scale (x6 (ix1 d)) (x7 (ix1 d)) ((Real.sqrt 2 : ℝ) : EReal) (v1 (ix2 r d)) (v75 (ix2 r d)) ((min (n + 1) 8 : ℕ) : EReal) := by
  pointwise [k1_pay1]
  rw [hw, deg_word n hn, root_two]
  rfl

/-- The block, at an element: the output of its row. -/
theorem blk1_apply (i : grid1.Coords) (x0 : Vec Ideal S2 .f32) (x1 : Vec Ideal S1x256x768 .f32) (x2 x3 : Vec Ideal S1x256x768 .bf16) (x4 x5 : Vec Ideal S1x2048x768 .bf16)
    (x6 x7 : Vec Ideal S768 .f32) (x : FVec Ideal SX .f32) (b : Fin 2) (r : Fin 256) (d : Fin 768)
    (h1 : ∀ d, x1 (ix3 0 r d) = x (ix3 b (at1 i r) d)) (h2 : ∀ d, x2 (ix3 0 r d) = x (ix3 b (at1 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal))
    (R : Row 4096 neg floor (at1 i r).val (row x b (at1 i r)) (perm x b (at1 i r))) :
    blk1 i x0 x1 x2 x3 x4 x5 x6 x7 (ix3 0 r d)
      = out x (fun d => x6 (ix1 d)) (fun d => x7 (ix1 d)) (x0 (ix1 0)) (x0 (ix1 1)) b (at1 i r) d := by
  unfold blk1 out
  rw [gate1 _ _ _ _ _ _ _ r d (at1 i r).val (at1 i r).isLt (row_word 1024 (i 1).val r.val), message1 _ _ _ r d (below1 i x2 x3 x4 x5 r)]
  have e1 : k1_pay2 x1 (ix2 r d) = x (ix3 b (at1 i r) d) := by
    pointwise [k1_pay2]
    exact h1 d
  have e3 : ∀ s, k1_pay3 x4 (ix2 s d) = x (ix3 b (s.castLE (by norm_num)) d) := fun s => by
    pointwise [k1_pay3]
    exact h4 s d
  have e4 : (fun s => k1_pay4 i x2 x3 x4 x5 (ix2 r s)) = fun s : Fin 2048 => row x b (at1 i r) (s.castLE (by norm_num)) :=
    funext (score1 i x2 x3 x4 x5 x b r h2 h3 h4 h5)
  rw [e1, e4]
  simp only [e3]
  rw [R.sum_eq (by norm_num) (by norm_num) (at1_lt i r) bot_le_neg (fun s => x (ix3 b s d))]
  rfl

end Cert.KernelIdeal.Value

end
-- ==== Proof.IdealArray1.lean ====
/- Region 1: the array that its results are written back to, read at every element. -/
module

public import proofs.«01_k».proof.Proof.IdealBlock1
public import proofs.«01_k».proof.Proof.IdealHost
public import Idealize.ShloMosaic.Lib.Pipeline.ValueKit.Geometry

@[expose] public section

set_option maxRecDepth 16384

noncomputable section

namespace Cert.KernelIdeal.Value

open Cert.KernelIdeal Cert.KernelIdeal.Run Cert.KernelIdeal.Gen Idealize.ShloMosaic Idealize.ShloMosaic.TcCoe Cert.Sel Cert.ReferenceIdeal.Value
open Idealize.ShloMosaic.Pipeline (Dat Cfg Window)

/-- Which block each window reads at a step. -/
theorem index1_0 : ∀ t : Fin cfg1.N, win1_0.index t = ![0] := by decide +kernel
theorem index1_1 : ∀ t : Fin cfg1.N, win1_1.index t = ![(grid1.coords t 0).val, 4 + (grid1.coords t 1).val, 0] := by decide +kernel
theorem index1_2 : ∀ t : Fin cfg1.N, win1_2.index t = ![(grid1.coords t 0).val, 4 + (grid1.coords t 1).val, 0] := by decide +kernel
theorem index1_3 : ∀ t : Fin cfg1.N, win1_3.index t = ![(grid1.coords t 0).val, 4 + (grid1.coords t 1).val, 0] := by decide +kernel
theorem index1_4 : ∀ t : Fin cfg1.N, win1_4.index t = ![(grid1.coords t 0).val, 0, 0] := by decide +kernel
theorem index1_5 : ∀ t : Fin cfg1.N, win1_5.index t = ![(grid1.coords t 0).val, 0, 0] := by decide +kernel
theorem index1_6 : ∀ t : Fin cfg1.N, win1_6.index t = ![0] := by decide +kernel
theorem index1_7 : ∀ t : Fin cfg1.N, win1_7.index t = ![0] := by decide +kernel
theorem index1_8 : ∀ t : Fin cfg1.N, win1_8.index t = ![(grid1.coords t 0).val, (grid1.coords t 1).val, 0] := by decide +kernel

variable (V : (c : Dev nD) → Valuation τ sig (Elt Ideal))

/-- The batch of a step. -/
abbrev bat1 (t : Fin cfg1.N) : Fin 2 := grid1.coords t 0

theorem staged1_0 (c : Dev nD) (t : Fin cfg1.N) (k : Fin 2) : stg1 V c 0 t (ix1 k) = V c main_call0_v8 (ix1 k) := by
  refine congrArg (V c main_call0_v8) ?_
  blk_ext [index1_0]

theorem staged1_1 (c : Dev nD) (t : Fin cfg1.N) (r : Fin 256) (d : Fin 768) :
    stg1 V c 1 t (ix3 0 r d) = V c main_arg0 (ix3 (bat1 t) (at1 (grid1.coords t) r) d) := by
  refine congrArg (V c main_arg0) ?_
  blk_ext [bat1, index1_1, at1]

theorem staged1_2 (c : Dev nD) (t : Fin cfg1.N) (r : Fin 256) (d : Fin 768) :
    stg1 V c 2 t (ix3 0 r d) = V c main_call0_v9 (ix3 (bat1 t) (at1 (grid1.coords t) r) d) := by
  refine congrArg (V c main_call0_v9) ?_
  blk_ext [bat1, index1_2, at1]

theorem staged1_3 (c : Dev nD) (t : Fin cfg1.N) (r : Fin 256) (d : Fin 768) :
    stg1 V c 3 t (ix3 0 r d) = V c main_call0_v12 (ix3 (bat1 t) (at1 (grid1.coords t) r) d) := by
  refine congrArg (V c main_call0_v12) ?_
  blk_ext [bat1, index1_3, at1]

theorem staged1_4 (c : Dev nD) (t : Fin cfg1.N) (s : Fin 2048) (d : Fin 768) :
    stg1 V c 4 t (ix3 0 s d) = V c main_call0_v9 (ix3 (bat1 t) (s.castLE (by norm_num)) d) := by
  refine congrArg (V c main_call0_v9) ?_
  blk_ext [bat1, index1_4]
  all_goals rfl

theorem staged1_5 (c : Dev nD) (t : Fin cfg1.N) (s : Fin 2048) (d : Fin 768) :
    stg1 V c 5 t (ix3 0 s d) = V c main_call0_v12 (ix3 (bat1 t) (s.castLE (by norm_num)) d) := by
  refine congrArg (V c main_call0_v12) ?_
  blk_ext [bat1, index1_5]
  all_goals rfl

theorem staged1_6 (c : Dev nD) (t : Fin cfg1.N) (d : Fin 768) : stg1 V c 6 t (ix1 d) = V c main_arg1 (ix1 d) := by
  refine congrArg (V c main_arg1) ?_
  blk_ext [index1_6]

theorem staged1_7 (c : Dev nD) (t : Fin cfg1.N) (d : Fin 768) : stg1 V c 7 t (ix1 d) = V c main_arg2 (ix1 d) := by
  refine congrArg (V c main_arg2) ?_
  blk_ext [index1_7]

variable (m : (ℓ : Loc nD τ sig) → Buf (Elt Ideal) ℓ)

/-- The block of one step, at an element: the output of its row. -/
theorem step1 (c : Dev nD) (t : Fin cfg1.N) (r : Fin 256) (d : Fin 768)
    (hx : ∀ b s d, ∃ y : ℝ, inp m c (ix3 b s d) = (y : EReal)) (R : ∀ b s, Row 4096 neg floor s.val (row (inp m c) b s) (perm (inp m c) b s)) :
    out1 (V1 m) c t (ix3 0 r d) = result m c (bat1 t) (at1 (grid1.coords t) r) d := by
  refine (blk1_apply (grid1.coords t) _ _ _ _ _ _ _ _ (inp m c) (bat1 t) r d ?_ ?_ ?_ ?_ ?_ (R _ _)).trans ?_
  · intro d
    rw [staged1_1, inp_apply]
  · intro d
    rw [staged1_2]
    exact high_apply m c _ _ _
  · intro d
    rw [staged1_3]
    exact low_apply m c _ _ _ (hx _ _ _)
  · intro s d
    rw [staged1_4]
    exact high_apply m c _ _ _
  · intro s d
    rw [staged1_5]
    exact low_apply m c _ _ _ (hx _ _ _)
  · unfold result
    refine congr (congr (congr (congr (congr (congr (congrArg (out (inp m c)) (funext fun d => ?_)) (funext fun d => ?_)) ?_) ?_) rfl) rfl) rfl
    · rw [staged1_6, gain_apply]
    · rw [staged1_7, bias_apply]
    · rw [staged1_0]
      exact mix_apply m c
    · rw [staged1_0]
      exact scale_apply m c

/-- The region's array. -/
theorem array1 (c : Dev nD)
    (hx : ∀ b s d, ∃ y : ℝ, inp m c (ix3 b s d) = (y : EReal)) (R : ∀ b s, Row 4096 neg floor s.val (row (inp m c) b s) (perm (inp m c) b s)) :
    (dat1 (V1 m) c).arrAt 8 cfg1.N = slab m c 1 (by norm_num) := by
  refine (dat1 (V1 m) c).arrAt_eq_of_covers 8 _ (by decide +kernel) fun t hf y => ?_
  have e : ∃ (r : Fin 256) (d : Fin 768), y = ix3 0 r d := ⟨y 1, y 2, by
    funext a
    match a with
    | ⟨0, _⟩ => exact Subsingleton.elim (α := Fin 1) _ _
    | ⟨1, _⟩ => rfl
    | ⟨2, _⟩ => rfl⟩
  obtain ⟨r, d, rfl⟩ := e
  have e : ((cfg1.win 8).blk t).view.emb (ix3 0 r d) = (ix3 (bat1 t) ⟨(grid1.coords t 1).val * 256 + r.val, by
      have := (grid1.coords t 1).isLt; change (grid1.coords t 1).val < 4 at this; omega⟩ d : S2x1024x768.Idx) := by
    blk_ext [bat1, index1_8]
  rw [e]
  refine (step1 m c t r d hx R).trans ?_
  refine congrArg (fun s => result m c (bat1 t) s d) (Fin.ext ?_)
  show 1024 + _ * 256 + r.val = 1024 + (_ * 256 + r.val)
  omega

end Cert.KernelIdeal.Value

end
-- ==== Proof.IdealBlock2.lean ====
/- Region 2: the block of results that one step computes, read at an element. -/
module

public import proofs.«01_k».proof.Proof.IdealCommon
public import proofs.«01_k».proof.Proof.IdealRegion2

@[expose] public section

set_option maxRecDepth 16384

noncomputable section

namespace Cert.KernelIdeal.Value

open Cert.KernelIdeal Cert.KernelIdeal.Run Cert.KernelIdeal.Gen Idealize.ShloMosaic Cert.Sel Cert.ReferenceIdeal.Value

/-- Row `r` of the step's block, as a row of the whole input. -/
def at2 (i : grid2.Coords) (r : Fin 256) : Fin 4096 := ⟨2048 + (i 1).val * 256 + r.val, by have := (i 1).isLt; change (i 1).val < 4 at this; omega⟩

theorem at2_lt (i : grid2.Coords) (r : Fin 256) : (at2 i r).val < 3072 := by
  have := (i 1).isLt; change (i 1).val < 4 at this; show 2048 + (i 1).val * 256 + r.val < _; omega

theorem score2 (i : grid2.Coords) (x2 x3 : Vec Ideal S1x256x768 .bf16) (x4 x5 : Vec Ideal S1x3072x768 .bf16) (x : FVec Ideal SX .f32) (b : Fin 2) (r : Fin 256)
    (h2 : ∀ d, x2 (ix3 0 r d) = x (ix3 b (at2 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal)) (s : Fin 3072) :
    k2_pay4 i x2 x3 x4 x5 (ix2 r s) = row x b (at2 i r) (s.castLE (by norm_num)) := by
  pointwise [k2_pay4, k2_pay3]
  have hlt := at2_lt i r
  rw [row_word 2048 (i 1).val r.val, sle_small _ _ (by omega) (by show (at2 i r).val < _; omega), select_ofBool,
    three_products (fun k => x2 (ix3 0 r k)) (fun k => x3 (ix3 0 r k)) (fun k => x4 (ix3 0 s k)) (fun k => x5 (ix3 0 s k)) h3 (h5 s)]
  simp only [h2, h4, row, decide_eq_true_eq]
  rfl

theorem below2 (i : grid2.Coords) (x2 x3 : Vec Ideal S1x256x768 .bf16) (x4 x5 : Vec Ideal S1x3072x768 .bf16) (r : Fin 256) (s : Fin 3072) :
    k2_pay5 i x2 x3 x4 x5 (ix2 r s)
      = BitVec.ofBool (decide (k2_pay4 i x2 x3 x4 x5 (ix2 r s) < rounds bot neg (fun s => k2_pay4 i x2 x3 x4 x5 (ix2 r s)) 1)) := by
  pointwise [k2_pay5]
  rfl

open Classical in
theorem message2 (v7 : FVec Ideal S3072x768 .bf16) (v23 : FVec Ideal S256x3072 .f32) (v33 : IVec S256x3072 1) (r : Fin 256) (d : Fin 768)
    (h : ∀ s, v33 (ix2 r s) = BitVec.ofBool (decide (v23 (ix2 r s) < rounds bot neg (fun s => v23 (ix2 r s)) 1))) :
    k2_pay6 v7 v23 v33 (ix2 r d) = ∑ s, (if kept bot neg floor (fun s => v23 (ix2 r s)) s then 1 else 0) * v7 (ix2 s d) := by
  pointwise [k2_pay6]
  simp only [h, select_ofBool, mask_word, decide_eq_true_eq]
  exact Finset.sum_congr rfl fun s _ => congrArg (fun y : EReal => y * v7 (ix2 s d)) (if_congr Iff.rfl rfl rfl)

theorem gate2 (v1 : FVec Ideal S256x768 .f32) (v75 : FVec Ideal S256x768 .f32) (w : BitVec 32) (mix scale : Ideal .f32) (x6 x7 : Vec Ideal S768 .f32) (r : Fin 256) (d : Fin 768) (n : ℕ)
    (hn : n < 4096) (hw : IntOp.addi w (BitVec.ofNat 32 r.val) = BitVec.ofNat 32 n) :
    k2_pay1 v1 v75 w mix scale x6 x7 (ix3 0 r d)
      = gate mix scale (x6 (ix1 d)) (x7 (ix1 d)) ((Real.sqrt 2 : ℝ) : EReal) (v1 (ix2 r d)) (v75 (ix2 r d)) ((min (n + 1) 8 : ℕ) : EReal) := by
  pointwise [k2_pay1]
  rw [hw, deg_word n hn, root_two]
  rfl

/-- The block, at an element: the output of its row. -/
theorem blk2_apply (i : grid2.Coords) (x0 : Vec Ideal S2 .f32) (x1 : Vec Ideal S1x256x768 .f32) (x2 x3 : Vec Ideal S1x256x768 .bf16) (x4 x5 : Vec Ideal S1x3072x768 .bf16)
    (x6 x7 : Vec Ideal S768 .f32) (x : FVec Ideal SX .f32) (b : Fin 2) (r : Fin 256) (d : Fin 768)
    (h1 : ∀ d, x1 (ix3 0 r d) = x (ix3 b (at2 i r) d)) (h2 : ∀ d, x2 (ix3 0 r d) = x (ix3 b (at2 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal))
    (R : Row 4096 neg floor (at2 i r).val (row x b (at2 i r)) (perm x b (at2 i r))) :
    blk2 i x0 x1 x2 x3 x4 x5 x6 x7 (ix3 0 r d)
      = out x (fun d => x6 (ix1 d)) (fun d => x7 (ix1 d)) (x0 (ix1 0)) (x0 (ix1 1)) b (at2 i r) d := by
  unfold blk2 out
  rw [gate2 _ _ _ _ _ _ _ r d (at2 i r).val (at2 i r).isLt (row_word 2048 (i 1).val r.val), message2 _ _ _ r d (below2 i x2 x3 x4 x5 r)]
  have e1 : k2_pay2 x1 (ix2 r d) = x (ix3 b (at2 i r) d) := by
    pointwise [k2_pay2]
    exact h1 d
  have e3 : ∀ s, k2_pay3 x4 (ix2 s d) = x (ix3 b (s.castLE (by norm_num)) d) := fun s => by
    pointwise [k2_pay3]
    exact h4 s d
  have e4 : (fun s => k2_pay4 i x2 x3 x4 x5 (ix2 r s)) = fun s : Fin 3072 => row x b (at2 i r) (s.castLE (by norm_num)) :=
    funext (score2 i x2 x3 x4 x5 x b r h2 h3 h4 h5)
  rw [e1, e4]
  simp only [e3]
  rw [R.sum_eq (by norm_num) (by norm_num) (at2_lt i r) bot_le_neg (fun s => x (ix3 b s d))]
  rfl

end Cert.KernelIdeal.Value

end
-- ==== Proof.IdealArray2.lean ====
/- Region 2: the array that its results are written back to, read at every element. -/
module

public import proofs.«01_k».proof.Proof.IdealBlock2
public import proofs.«01_k».proof.Proof.IdealHost
public import Idealize.ShloMosaic.Lib.Pipeline.ValueKit.Geometry

@[expose] public section

set_option maxRecDepth 16384

noncomputable section

namespace Cert.KernelIdeal.Value

open Cert.KernelIdeal Cert.KernelIdeal.Run Cert.KernelIdeal.Gen Idealize.ShloMosaic Idealize.ShloMosaic.TcCoe Cert.Sel Cert.ReferenceIdeal.Value
open Idealize.ShloMosaic.Pipeline (Dat Cfg Window)

/-- Which block each window reads at a step. -/
theorem index2_0 : ∀ t : Fin cfg2.N, win2_0.index t = ![0] := by decide +kernel
theorem index2_1 : ∀ t : Fin cfg2.N, win2_1.index t = ![(grid2.coords t 0).val, 8 + (grid2.coords t 1).val, 0] := by decide +kernel
theorem index2_2 : ∀ t : Fin cfg2.N, win2_2.index t = ![(grid2.coords t 0).val, 8 + (grid2.coords t 1).val, 0] := by decide +kernel
theorem index2_3 : ∀ t : Fin cfg2.N, win2_3.index t = ![(grid2.coords t 0).val, 8 + (grid2.coords t 1).val, 0] := by decide +kernel
theorem index2_4 : ∀ t : Fin cfg2.N, win2_4.index t = ![(grid2.coords t 0).val, 0, 0] := by decide +kernel
theorem index2_5 : ∀ t : Fin cfg2.N, win2_5.index t = ![(grid2.coords t 0).val, 0, 0] := by decide +kernel
theorem index2_6 : ∀ t : Fin cfg2.N, win2_6.index t = ![0] := by decide +kernel
theorem index2_7 : ∀ t : Fin cfg2.N, win2_7.index t = ![0] := by decide +kernel
theorem index2_8 : ∀ t : Fin cfg2.N, win2_8.index t = ![(grid2.coords t 0).val, (grid2.coords t 1).val, 0] := by decide +kernel

variable (V : (c : Dev nD) → Valuation τ sig (Elt Ideal))

/-- The batch of a step. -/
abbrev bat2 (t : Fin cfg2.N) : Fin 2 := grid2.coords t 0

theorem staged2_0 (c : Dev nD) (t : Fin cfg2.N) (k : Fin 2) : stg2 V c 0 t (ix1 k) = V c main_call0_v8 (ix1 k) := by
  refine congrArg (V c main_call0_v8) ?_
  blk_ext [index2_0]

theorem staged2_1 (c : Dev nD) (t : Fin cfg2.N) (r : Fin 256) (d : Fin 768) :
    stg2 V c 1 t (ix3 0 r d) = V c main_arg0 (ix3 (bat2 t) (at2 (grid2.coords t) r) d) := by
  refine congrArg (V c main_arg0) ?_
  blk_ext [bat2, index2_1, at2]

theorem staged2_2 (c : Dev nD) (t : Fin cfg2.N) (r : Fin 256) (d : Fin 768) :
    stg2 V c 2 t (ix3 0 r d) = V c main_call0_v9 (ix3 (bat2 t) (at2 (grid2.coords t) r) d) := by
  refine congrArg (V c main_call0_v9) ?_
  blk_ext [bat2, index2_2, at2]

theorem staged2_3 (c : Dev nD) (t : Fin cfg2.N) (r : Fin 256) (d : Fin 768) :
    stg2 V c 3 t (ix3 0 r d) = V c main_call0_v12 (ix3 (bat2 t) (at2 (grid2.coords t) r) d) := by
  refine congrArg (V c main_call0_v12) ?_
  blk_ext [bat2, index2_3, at2]

theorem staged2_4 (c : Dev nD) (t : Fin cfg2.N) (s : Fin 3072) (d : Fin 768) :
    stgc2 V c 4 t (ix3 0 s d) = V c main_call0_v9 (ix3 (bat2 t) (s.castLE (by norm_num)) d) := by
  have hm : (cfg2.win 4).moved (cfg2.grid.coords t) (ix3 0 s d) = true :=
    ((cfg2.win 4).moved_iff _ _).mpr fun a => by
      have := ((ix3 0 s d : S1x3072x768.Idx) a).isLt
      unfold Window.xsize
      rw [clip2_4 t a]
      exact this
  unfold stgc2 Window.fill
  rw [dif_pos hm]
  refine congrArg (V c main_call0_v9) ?_
  blk_ext [bat2, index2_4]
  all_goals rfl

theorem staged2_5 (c : Dev nD) (t : Fin cfg2.N) (s : Fin 3072) (d : Fin 768) :
    stgc2 V c 5 t (ix3 0 s d) = V c main_call0_v12 (ix3 (bat2 t) (s.castLE (by norm_num)) d) := by
  have hm : (cfg2.win 5).moved (cfg2.grid.coords t) (ix3 0 s d) = true :=
    ((cfg2.win 5).moved_iff _ _).mpr fun a => by
      have := ((ix3 0 s d : S1x3072x768.Idx) a).isLt
      unfold Window.xsize
      rw [clip2_5 t a]
      exact this
  unfold stgc2 Window.fill
  rw [dif_pos hm]
  refine congrArg (V c main_call0_v12) ?_
  blk_ext [bat2, index2_5]
  all_goals rfl

theorem staged2_6 (c : Dev nD) (t : Fin cfg2.N) (d : Fin 768) : stg2 V c 6 t (ix1 d) = V c main_arg1 (ix1 d) := by
  refine congrArg (V c main_arg1) ?_
  blk_ext [index2_6]

theorem staged2_7 (c : Dev nD) (t : Fin cfg2.N) (d : Fin 768) : stg2 V c 7 t (ix1 d) = V c main_arg2 (ix1 d) := by
  refine congrArg (V c main_arg2) ?_
  blk_ext [index2_7]

variable (m : (ℓ : Loc nD τ sig) → Buf (Elt Ideal) ℓ)

/-- The block of one step, at an element: the output of its row. -/
theorem step2 (c : Dev nD) (t : Fin cfg2.N) (r : Fin 256) (d : Fin 768)
    (hx : ∀ b s d, ∃ y : ℝ, inp m c (ix3 b s d) = (y : EReal)) (R : ∀ b s, Row 4096 neg floor s.val (row (inp m c) b s) (perm (inp m c) b s)) :
    out2 (V1 m) c t (ix3 0 r d) = result m c (bat2 t) (at2 (grid2.coords t) r) d := by
  refine (blk2_apply (grid2.coords t) _ _ _ _ _ _ _ _ (inp m c) (bat2 t) r d ?_ ?_ ?_ ?_ ?_ (R _ _)).trans ?_
  · intro d
    rw [staged2_1, inp_apply]
  · intro d
    rw [staged2_2]
    exact high_apply m c _ _ _
  · intro d
    rw [staged2_3]
    exact low_apply m c _ _ _ (hx _ _ _)
  · intro s d
    rw [staged2_4]
    exact high_apply m c _ _ _
  · intro s d
    rw [staged2_5]
    exact low_apply m c _ _ _ (hx _ _ _)
  · unfold result
    refine congr (congr (congr (congr (congr (congr (congrArg (out (inp m c)) (funext fun d => ?_)) (funext fun d => ?_)) ?_) ?_) rfl) rfl) rfl
    · rw [staged2_6, gain_apply]
    · rw [staged2_7, bias_apply]
    · rw [staged2_0]
      exact mix_apply m c
    · rw [staged2_0]
      exact scale_apply m c

/-- The region's array. -/
theorem array2 (c : Dev nD)
    (hx : ∀ b s d, ∃ y : ℝ, inp m c (ix3 b s d) = (y : EReal)) (R : ∀ b s, Row 4096 neg floor s.val (row (inp m c) b s) (perm (inp m c) b s)) :
    (dat2 (V1 m) c).arrAt 8 cfg2.N = slab m c 2 (by norm_num) := by
  refine (dat2 (V1 m) c).arrAt_eq_of_covers 8 _ (by decide +kernel) fun t hf y => ?_
  have e : ∃ (r : Fin 256) (d : Fin 768), y = ix3 0 r d := ⟨y 1, y 2, by
    funext a
    match a with
    | ⟨0, _⟩ => exact Subsingleton.elim (α := Fin 1) _ _
    | ⟨1, _⟩ => rfl
    | ⟨2, _⟩ => rfl⟩
  obtain ⟨r, d, rfl⟩ := e
  have e : ((cfg2.win 8).blk t).view.emb (ix3 0 r d) = (ix3 (bat2 t) ⟨(grid2.coords t 1).val * 256 + r.val, by
      have := (grid2.coords t 1).isLt; change (grid2.coords t 1).val < 4 at this; omega⟩ d : S2x1024x768.Idx) := by
    blk_ext [bat2, index2_8]
  rw [e]
  refine (step2 m c t r d hx R).trans ?_
  refine congrArg (fun s => result m c (bat2 t) s d) (Fin.ext ?_)
  show 2048 + _ * 256 + r.val = 2048 + (_ * 256 + r.val)
  omega

end Cert.KernelIdeal.Value

end
-- ==== Proof.IdealBlock3.lean ====
/- Region 3: the block of results that one step computes, read at an element. -/
module

public import proofs.«01_k».proof.Proof.IdealCommon
public import proofs.«01_k».proof.Proof.IdealRegion3

@[expose] public section

set_option maxRecDepth 16384

noncomputable section

namespace Cert.KernelIdeal.Value

open Cert.KernelIdeal Cert.KernelIdeal.Run Cert.KernelIdeal.Gen Idealize.ShloMosaic Cert.Sel Cert.ReferenceIdeal.Value

/-- Row `r` of the step's block, as a row of the whole input. -/
def at3 (i : grid3.Coords) (r : Fin 256) : Fin 4096 := ⟨3072 + (i 1).val * 256 + r.val, by have := (i 1).isLt; change (i 1).val < 4 at this; omega⟩

theorem at3_lt (i : grid3.Coords) (r : Fin 256) : (at3 i r).val < 4096 := by
  have := (i 1).isLt; change (i 1).val < 4 at this; show 3072 + (i 1).val * 256 + r.val < _; omega

theorem score3 (i : grid3.Coords) (x2 x3 : Vec Ideal S1x256x768 .bf16) (x4 x5 : Vec Ideal S1x4096x768 .bf16) (x : FVec Ideal SX .f32) (b : Fin 2) (r : Fin 256)
    (h2 : ∀ d, x2 (ix3 0 r d) = x (ix3 b (at3 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal)) (s : Fin 4096) :
    k3_pay4 i x2 x3 x4 x5 (ix2 r s) = row x b (at3 i r) (s.castLE (by norm_num)) := by
  pointwise [k3_pay4, k3_pay3]
  have hlt := at3_lt i r
  rw [row_word 3072 (i 1).val r.val, sle_small _ _ (by omega) (by show (at3 i r).val < _; omega), select_ofBool,
    three_products (fun k => x2 (ix3 0 r k)) (fun k => x3 (ix3 0 r k)) (fun k => x4 (ix3 0 s k)) (fun k => x5 (ix3 0 s k)) h3 (h5 s)]
  simp only [h2, h4, row, decide_eq_true_eq]
  rfl

theorem below3 (i : grid3.Coords) (x2 x3 : Vec Ideal S1x256x768 .bf16) (x4 x5 : Vec Ideal S1x4096x768 .bf16) (r : Fin 256) (s : Fin 4096) :
    k3_pay5 i x2 x3 x4 x5 (ix2 r s)
      = BitVec.ofBool (decide (k3_pay4 i x2 x3 x4 x5 (ix2 r s) < rounds bot neg (fun s => k3_pay4 i x2 x3 x4 x5 (ix2 r s)) 1)) := by
  pointwise [k3_pay5]
  rfl

open Classical in
theorem message3 (v7 : FVec Ideal S4096x768 .bf16) (v23 : FVec Ideal S256x4096 .f32) (v33 : IVec S256x4096 1) (r : Fin 256) (d : Fin 768)
    (h : ∀ s, v33 (ix2 r s) = BitVec.ofBool (decide (v23 (ix2 r s) < rounds bot neg (fun s => v23 (ix2 r s)) 1))) :
    k3_pay6 v7 v23 v33 (ix2 r d) = ∑ s, (if kept bot neg floor (fun s => v23 (ix2 r s)) s then 1 else 0) * v7 (ix2 s d) := by
  pointwise [k3_pay6]
  simp only [h, select_ofBool, mask_word, decide_eq_true_eq]
  exact Finset.sum_congr rfl fun s _ => congrArg (fun y : EReal => y * v7 (ix2 s d)) (if_congr Iff.rfl rfl rfl)

theorem gate3 (v1 : FVec Ideal S256x768 .f32) (v75 : FVec Ideal S256x768 .f32) (w : BitVec 32) (mix scale : Ideal .f32) (x6 x7 : Vec Ideal S768 .f32) (r : Fin 256) (d : Fin 768) (n : ℕ)
    (hn : n < 4096) (hw : IntOp.addi w (BitVec.ofNat 32 r.val) = BitVec.ofNat 32 n) :
    k3_pay1 v1 v75 w mix scale x6 x7 (ix3 0 r d)
      = gate mix scale (x6 (ix1 d)) (x7 (ix1 d)) ((Real.sqrt 2 : ℝ) : EReal) (v1 (ix2 r d)) (v75 (ix2 r d)) ((min (n + 1) 8 : ℕ) : EReal) := by
  pointwise [k3_pay1]
  rw [hw, deg_word n hn, root_two]
  rfl

/-- The block, at an element: the output of its row. -/
theorem blk3_apply (i : grid3.Coords) (x0 : Vec Ideal S2 .f32) (x1 : Vec Ideal S1x256x768 .f32) (x2 x3 : Vec Ideal S1x256x768 .bf16) (x4 x5 : Vec Ideal S1x4096x768 .bf16)
    (x6 x7 : Vec Ideal S768 .f32) (x : FVec Ideal SX .f32) (b : Fin 2) (r : Fin 256) (d : Fin 768)
    (h1 : ∀ d, x1 (ix3 0 r d) = x (ix3 b (at3 i r) d)) (h2 : ∀ d, x2 (ix3 0 r d) = x (ix3 b (at3 i r) d)) (h3 : ∀ d, x3 (ix3 0 r d) = (0 : EReal))
    (h4 : ∀ s d, x4 (ix3 0 s d) = x (ix3 b (s.castLE (by norm_num)) d)) (h5 : ∀ s d, x5 (ix3 0 s d) = (0 : EReal))
    (R : Row 4096 neg floor (at3 i r).val (row x b (at3 i r)) (perm x b (at3 i r))) :
    blk3 i x0 x1 x2 x3 x4 x5 x6 x7 (ix3 0 r d)
      = out x (fun d => x6 (ix1 d)) (fun d => x7 (ix1 d)) (x0 (ix1 0)) (x0 (ix1 1)) b (at3 i r) d := by
  unfold blk3 out
  rw [gate3 _ _ _ _ _ _ _ r d (at3 i r).val (at3 i r).isLt (row_word 3072 (i 1).val r.val), message3 _ _ _ r d (below3 i x2 x3 x4 x5 r)]
  have e1 : k3_pay2 x1 (ix2 r d) = x (ix3 b (at3 i r) d) := by
    pointwise [k3_pay2]
    exact h1 d
  have e3 : ∀ s, k3_pay3 x4 (ix2 s d) = x (ix3 b (s.castLE (by norm_num)) d) := fun s => by
    pointwise [k3_pay3]
    exact h4 s d
  have e4 : (fun s => k3_pay4 i x2 x3 x4 x5 (ix2 r s)) = fun s : Fin 4096 => row x b (at3 i r) (s.castLE (by norm_num)) :=
    funext (score3 i x2 x3 x4 x5 x b r h2 h3 h4 h5)
  rw [e1, e4]
  simp only [e3]
  rw [R.sum_eq (by norm_num) (by norm_num) (at3_lt i r) bot_le_neg (fun s => x (ix3 b s d))]
  rfl

end Cert.KernelIdeal.Value

end
-- ==== Proof.IdealArray3.lean ====
/- Region 3: the array that its results are written back to, read at every element. -/
module

public import proofs.«01_k».proof.Proof.IdealBlock3
public import proofs.«01_k».proof.Proof.IdealHost
public import Idealize.ShloMosaic.Lib.Pipeline.ValueKit.Geometry

@[expose] public section

set_option maxRecDepth 16384

noncomputable section

namespace Cert.KernelIdeal.Value

open Cert.KernelIdeal Cert.KernelIdeal.Run Cert.KernelIdeal.Gen Idealize.ShloMosaic Idealize.ShloMosaic.TcCoe Cert.Sel Cert.ReferenceIdeal.Value
open Idealize.ShloMosaic.Pipeline (Dat Cfg Window)

/-- Which block each window reads at a step. -/
theorem index3_0 : ∀ t : Fin cfg3.N, win3_0.index t = ![0] := by decide +kernel
theorem index3_1 : ∀ t : Fin cfg3.N, win3_1.index t = ![(grid3.coords t 0).val, 12 + (grid3.coords t 1).val, 0] := by decide +kernel
theorem index3_2 : ∀ t : Fin cfg3.N, win3_2.index t = ![(grid3.coords t 0).val, 12 + (grid3.coords t 1).val, 0] := by decide +kernel
theorem index3_3 : ∀ t : Fin cfg3.N, win3_3.index t = ![(grid3.coords t 0).val, 12 + (grid3.coords t 1).val, 0] := by decide +kernel
theorem index3_4 : ∀ t : Fin cfg3.N, win3_4.index t = ![(grid3.coords t 0).val, 0, 0] := by decide +kernel
theorem index3_5 : ∀ t : Fin cfg3.N, win3_5.index t = ![(grid3.coords t 0).val, 0, 0] := by decide +kernel
theorem index3_6 : ∀ t : Fin cfg3.N, win3_6.index t = ![0] := by decide +kernel
theorem index3_7 : ∀ t : Fin cfg3.N, win3_7.index t = ![0] := by decide +kernel
theorem index3_8 : ∀ t : Fin cfg3.N, win3_8.index t = ![(grid3.coords t 0).val, (grid3.coords t 1).val, 0] := by decide +kernel

variable (V : (c : Dev nD) → Valuation τ sig (Elt Ideal))

/-- The batch of a step. -/
abbrev bat3 (t : Fin cfg3.N) : Fin 2 := grid3.coords t 0

theorem staged3_0 (c : Dev nD) (t : Fin cfg3.N) (k : Fin 2) : stg3 V c 0 t (ix1 k) = V c main_call0_v8 (ix1 k) := by
  refine congrArg (V c main_call0_v8) ?_
  blk_ext [index3_0]

theorem staged3_1 (c : Dev nD) (t : Fin cfg3.N) (r : Fin 256) (d : Fin 768) :
    stg3 V c 1 t (ix3 0 r d) = V c main_arg0 (ix3 (bat3 t) (at3 (grid3.coords t) r) d) := by
  refine congrArg (V c main_arg0) ?_
  blk_ext [bat3, index3_1, at3]

theorem staged3_2 (c : Dev nD) (t : Fin cfg3.N) (r : Fin 256) (d : Fin 768) :
    stg3 V c 2 t (ix3 0 r d) = V c main_call0_v9 (ix3 (bat3 t) (at3 (grid3.coords t) r) d) := by
  refine congrArg (V c main_call0_v9) ?_
  blk_ext [bat3, index3_2, at3]

theorem staged3_3 (c : Dev nD) (t : Fin cfg3.N) (r : Fin 256) (d : Fin 768) :
    stg3 V c 3 t (ix3 0 r d) = V c main_call0_v12 (ix3 (bat3 t) (at3 (grid3.coords t) r) d) := by
  refine congrArg (V c main_call0_v12) ?_
  blk_ext [bat3, index3_3, at3]

theorem staged3_4 (c : Dev nD) (t : Fin cfg3.N) (s : Fin 4096) (d : Fin 768) :
    stg3 V c 4 t (ix3 0 s d) = V c main_call0_v9 (ix3 (bat3 t) (s.castLE (by norm_num)) d) := by
  refine congrArg (V c main_call0_v9) ?_
  blk_ext [bat3, index3_4]
  all_goals rfl

theorem staged3_5 (c : Dev nD) (t : Fin cfg3.N) (s : Fin 4096) (d : Fin 768) :
    stg3 V c 5 t (ix3 0 s d) = V c main_call0_v12 (ix3 (bat3 t) (s.castLE (by norm_num)) d) := by
  refine congrArg (V c main_call0_v12) ?_
  blk_ext [bat3, index3_5]
  all_goals rfl

theorem staged3_6 (c : Dev nD) (t : Fin cfg3.N) (d : Fin 768) : stg3 V c 6 t (ix1 d) = V c main_arg1 (ix1 d) := by
  refine congrArg (V c main_arg1) ?_
  blk_ext [index3_6]

theorem staged3_7 (c : Dev nD) (t : Fin cfg3.N) (d : Fin 768) : stg3 V c 7 t (ix1 d) = V c main_arg2 (ix1 d) := by
  refine congrArg (V c main_arg2) ?_
  blk_ext [index3_7]

variable (m : (ℓ : Loc nD τ sig) → Buf (Elt Ideal) ℓ)

/-- The block of one step, at an element: the output of its row. -/
theorem step3 (c : Dev nD) (t : Fin cfg3.N) (r : Fin 256) (d : Fin 768)
    (hx : ∀ b s d, ∃ y : ℝ, inp m c (ix3 b s d) = (y : EReal)) (R : ∀ b s, Row 4096 neg floor s.val (row (inp m c) b s) (perm (inp m c) b s)) :
    out3 (V1 m) c t (ix3 0 r d) = result m c (bat3 t) (at3 (grid3.coords t) r) d := by
  refine (blk3_apply (grid3.coords t) _ _ _ _ _ _ _ _ (inp m c) (bat3 t) r d ?_ ?_ ?_ ?_ ?_ (R _ _)).trans ?_
  · intro d
    rw [staged3_1, inp_apply]
  · intro d
    rw [staged3_2]
    exact high_apply m c _ _ _
  · intro d
    rw [staged3_3]
    exact low_apply m c _ _ _ (hx _ _ _)
  · intro s d
    rw [staged3_4]
    exact high_apply m c _ _ _
  · intro s d
    rw [staged3_5]
    exact low_apply m c _ _ _ (hx _ _ _)
  · unfold result
    refine congr (congr (congr (congr (congr (congr (congrArg (out (inp m c)) (funext fun d => ?_)) (funext fun d => ?_)) ?_) ?_) rfl) rfl) rfl
    · rw [staged3_6, gain_apply]
    · rw [staged3_7, bias_apply]
    · rw [staged3_0]
      exact mix_apply m c
    · rw [staged3_0]
      exact scale_apply m c

/-- The region's array. -/
theorem array3 (c : Dev nD)
    (hx : ∀ b s d, ∃ y : ℝ, inp m c (ix3 b s d) = (y : EReal)) (R : ∀ b s, Row 4096 neg floor s.val (row (inp m c) b s) (perm (inp m c) b s)) :
    (dat3 (V1 m) c).arrAt 8 cfg3.N = slab m c 3 (by norm_num) := by
  refine (dat3 (V1 m) c).arrAt_eq_of_covers 8 _ (by decide +kernel) fun t hf y => ?_
  have e : ∃ (r : Fin 256) (d : Fin 768), y = ix3 0 r d := ⟨y 1, y 2, by
    funext a
    match a with
    | ⟨0, _⟩ => exact Subsingleton.elim (α := Fin 1) _ _
    | ⟨1, _⟩ => rfl
    | ⟨2, _⟩ => rfl⟩
  obtain ⟨r, d, rfl⟩ := e
  have e : ((cfg3.win 8).blk t).view.emb (ix3 0 r d) = (ix3 (bat3 t) ⟨(grid3.coords t 1).val * 256 + r.val, by
      have := (grid3.coords t 1).isLt; change (grid3.coords t 1).val < 4 at this; omega⟩ d : S2x1024x768.Idx) := by
    blk_ext [bat3, index3_8]
  rw [e]
  refine (step3 m c t r d hx R).trans ?_
  refine congrArg (fun s => result m c (bat3 t) s d) (Fin.ext ?_)
  show 3072 + _ * 256 + r.val = 3072 + (_ * 256 + r.val)
  omega

end Cert.KernelIdeal.Value

end
-- ==== Proof.IdealFinal.lean ====
/- The kernel's result, read at every element. -/
module

public import proofs.«01_k».proof.Proof.IdealArray0
public import proofs.«01_k».proof.Proof.IdealArray1
public import proofs.«01_k».proof.Proof.IdealArray2
public import proofs.«01_k».proof.Proof.IdealArray3

@[expose] public section

set_option maxRecDepth 16384

noncomputable section

namespace Cert.KernelIdeal.Value

open Cert.KernelIdeal Cert.KernelIdeal.Run Cert.KernelIdeal.Gen Idealize.ShloMosaic Idealize.ShloMosaic.TcCoe Cert.Sel Cert.ReferenceIdeal.Value

variable (m : (ℓ : Loc nD τ sig) → Buf (Elt Ideal) ℓ)

/-- What each region leaves is still there when the last one ends. -/
theorem left0 (os : Outs (F := Ideal)) (c : Dev nD) : V5 m os c main_call0_v13 = os 2 main_call0_v13 c :=
  (V5_of m os c _ (by decide)).trans <| (V4_of m os c _ (by decide)).trans <| (V3_of m os c _ (by decide)).trans <| Function.update_self _ _ _
theorem left1 (os : Outs (F := Ideal)) (c : Dev nD) : V5 m os c main_call0_v14 = os 3 main_call0_v14 c :=
  (V5_of m os c _ (by decide)).trans <| (V4_of m os c _ (by decide)).trans <| Function.update_self _ _ _
theorem left2 (os : Outs (F := Ideal)) (c : Dev nD) : V5 m os c main_call0_v15 = os 4 main_call0_v15 c :=
  (V5_of m os c _ (by decide)).trans <| Function.update_self _ _ _
theorem left3 (os : Outs (F := Ideal)) (c : Dev nD) : V5 m os c main_call0_v16 = os 5 main_call0_v16 c :=
  Function.update_self _ _ _

/-- The four arrays, one after another along the rows. -/
theorem joined (V : Valuation τ sig (Elt Ideal)) (S : (k : ℕ) → k < 4 → FVec Ideal S2x1024x768 .f32)
    (h0 : V main_call0_v13 = S 0 (by norm_num)) (h1 : V main_call0_v14 = S 1 (by norm_num))
    (h2 : V main_call0_v15 = S 2 (by norm_num)) (h3 : V main_call0_v16 = S 3 (by norm_num))
    (b : Fin 2) (t : Fin 4096) (d : Fin 768) :
    @Eq EReal (StableHlo.after hostOps4 V main_v0 (ix3 b t d)) (S (t.val / 1024) (by omega) (ix3 b ⟨t.val % 1024, by omega⟩ d)) := by
  after_reads_at
  have key : ∀ (k r : ℕ) (hk : k < 4) (hr : r < 1024), t.val / 1024 = k → t.val % 1024 = r →
      S (t.val / 1024) (by omega) (ix3 b ⟨t.val % 1024, by omega⟩ d) = S k hk (ix3 b ⟨r, hr⟩ d) := by
    rintro k r hk hr rfl rfl
    rfl
  split
  · next h => rw [key 0 t.val (by norm_num) h (by omega) (by omega)]; exact congrFun h0 _
  · split
    · next h => rw [key 1 (t.val - 1024) (by norm_num) h (by omega) (by omega)]; exact congrFun h1 _
    · split
      · next h => rw [key 2 (t.val - 1024 - 1024) (by norm_num) h (by omega) (by omega)]; exact congrFun h2 _
      · next h => rw [key 3 (t.val - 1024 - 1024 - 1024) (by norm_num) (by omega) (by omega) (by omega)]; exact congrFun h3 _

/-- The kernel's result. -/
theorem final_apply (c : Dev nD)
    (hx : ∀ b s d, ∃ y : ℝ, inp m c (ix3 b s d) = (y : EReal)) (R : ∀ b s, Row 4096 neg floor s.val (row (inp m c) b s) (perm (inp m c) b s))
    (b : Fin 2) (t : Fin 4096) (d : Fin 768) :
    @Eq EReal (V6 m (outs m) c main_v0 (ix3 b t d)) (result m c b t d) := by
  refine (joined (V5 m (outs m) c) (slab m c)
    ((left0 m _ c).trans ((outs_0 m _ c).trans (array0 m c hx R)))
    ((left1 m _ c).trans ((outs_1 m _ c).trans (array1 m c hx R)))
    ((left2 m _ c).trans ((outs_2 m _ c).trans (array2 m c hx R)))
    ((left3 m _ c).trans ((outs_3 m _ c).trans (array3 m c hx R))) b t d).trans ?_
  unfold slab
  refine congrArg (fun s => result m c b s d) (Fin.ext ?_)
  exact Nat.div_add_mod t.val 1024

end Cert.KernelIdeal.Value

end
-- ==== Proof.RefValue.lean ====
/- The reference's result, read at an element. -/
module

public import proofs.«01_k».proof.Proof.RefAdj

@[expose] public section

set_option maxRecDepth 16384

noncomputable section

namespace Cert.ReferenceIdeal.Value

open Cert.ReferenceIdeal Cert.ReferenceIdeal.Gen Idealize.ShloMosaic Cert.Sel

/-- The value that the activation is taken of, at an element. -/
def pre (a0 : FVec Ideal S2x4096x768 .f32) (a1 a2 : FVec Ideal S768 .f32) (a3 : FVec Ideal S_ .f32) (b : Fin 2) (t : Fin 4096) (d : Fin 768) : EReal :=
  (mixT a3 ix0 * a0 (ix3 b t d) + (1 - mixT a3 ix0) * Ideal.div (∑ s, adj a0 b t s * a0 (ix3 b s d)) ((min (t.val + 1) 8 : ℕ) : EReal)) * a1 (ix1 d) + a2 (ix1 d)

theorem preT_apply (a0 : FVec Ideal S2x4096x768 .f32) (a1 a2 : FVec Ideal S768 .f32) (a3 : FVec Ideal S_ .f32) (b : Fin 2) (t : Fin 4096) (d : Fin 768)
    (R : Row 4096 neg floor t.val (row a0 b t) (perm a0 b t)) :
    preT a0 a1 a2 a3 (ix3 b t d) = pre a0 a1 a2 a3 b t d := by
  pointwise [preT]
  have one : id (constant (F := Ideal) S_ FTy.f32 1065353216#32) ix0 = 1 := by
    show Ideal.ofBits FTy.f32 1065353216#32 = 1
    have : Ideal.ofBits FTy.f32 1065353216#32 = ((1 : ℝ) : EReal) := by
      simp [Ideal.ofBits, Ideal.ieee, -EReal.coe_mul, -EReal.coe_one]; norm_num
    rw [this, EReal.coe_one]
  have deg : ∑ s, adjT a0 (ix3 b t s) = ((min (t.val + 1) 8 : ℕ) : EReal) :=
    (Finset.sum_congr rfl fun s _ => adjT_apply a0 b t s R).trans (R.sum_one (by norm_num) t.isLt)
  have msg : ∑ s, adjT a0 (ix3 b t s) * a0 (ix3 b s d) = ∑ s, adj a0 b t s * a0 (ix3 b s d) :=
    Finset.sum_congr rfl fun s _ => by rw [adjT_apply a0 b t s R]
  have le : (1 : EReal) ≤ ((min (t.val + 1) 8 : ℕ) : EReal) := by
    have : 1 ≤ min (t.val + 1) 8 := by omega
    exact_mod_cast this
  rw [one, deg, msg, max_eq_right le]
  rfl

theorem sqrt_two_eq : Ideal.sqrt (Ideal.ofBits FTy.f32 1073741824#32) = ((Real.sqrt 2 : ℝ) : EReal) := by
  have : Ideal.ofBits FTy.f32 1073741824#32 = ((2 : ℝ) : EReal) := by
    simp [Ideal.ofBits, Ideal.ieee, -EReal.coe_mul]; norm_num
  rw [this, Ideal.sqrt_coe, if_neg (by norm_num)]

theorem finalT_apply (a0 : FVec Ideal S2x4096x768 .f32) (a1 a2 : FVec Ideal S768 .f32) (a3 a4 : FVec Ideal S_ .f32) (b : Fin 2) (t : Fin 4096) (d : Fin 768)
    (R : Row 4096 neg floor t.val (row a0 b t) (perm a0 b t)) :
    finalT a0 a1 a2 a3 a4 (ix3 b t d) = out a0 (fun d => a1 (ix1 d)) (fun d => a2 (ix1 d)) (mixT a3 ix0) (scaleT a4 ix0) b t d := by
  pointwise [finalT]
  have h : (Real.sqrt 2 : ℝ) ≠ 0 := by positivity
  rw [preT_apply a0 a1 a2 a3 b t d R, sqrt_two_eq, Ideal.div_coe h, EReal.neg_mul, Ideal.erfc_neg, ← Ideal.div_coe h]
  rfl

end Cert.ReferenceIdeal.Value

end
-- ==== Proof.PreRow.lean ====
/- What the precondition gives of every row of scores. -/
module

public import proofs.«01_k».proof.Proof.RefAdj
public import proofs.«01_k».proof.Proof.Gen.Pre_top_eight_clear

@[expose] public section

set_option maxRecDepth 16384

noncomputable section

namespace Cert.Pre_top_eight_clear

open Idealize.ShloMosaic Cert.Sel
variable [Facts]
open Facts

/-- The array of masked scores. -/
theorem masked_eq (x : FVec Ideal S2x4096x768 .f32) :
    select (broadcastInDim S2x4096x4096 ![0, 1, 2] bcast_S1x4096x4096_S2x4096x4096_0_1_2 (broadcastInDim S1x4096x4096 ![1, 2] bcast_S4096x4096_S1x4096x4096_1_2
        (cmpi .sle (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
      (Host.dotGeneral dot_S2x4096x768_S2x4096x768_S2x4096x4096_2_2_1_1_0_0 none x x)
      (broadcastInDim S2x4096x4096 ![] bcast_S_S2x4096x4096 (constant S_ .f32 0xFF7FFFFF#32)) = masked x := by
  funext j
  idx_vars j
  pointwise []
  rw [Cert.ReferenceIdeal.Value.sle_small _ _ (by omega) (by omega), Cert.ReferenceIdeal.Value.select_ofBool]
  show _ = row x j0 j1 j2
  simp only [row, decide_eq_true_eq]

theorem ofBool_one {p : Prop} [Decidable p] (h : BitVec.ofBool (decide p) = 1#1) : p := by
  by_cases hp : p
  · exact hp
  · rw [decide_eq_false hp] at h
    exact absurd h (by decide)

theorem zero_ori (a : BitVec 1) : IntOp.ori 0#1 a = a := by show 0#1 ||| a = a; simp

/-- Every entry of the input is a real number. -/
theorem real_of (x : FVec Ideal S2x4096x768 .f32) (a1 a2 : FVec Ideal S768 .f32) (a3 a4 : FVec Ideal S_ .f32)
    (h : (fn x a1 a2 a3 a4).1 = fun _ => 1#1) (b : Fin 2) (t : Fin 4096) (d : Fin 768) : ∃ r : ℝ, x (ix3 b t d) = (r : EReal) := by
  have e := congrFun h (ix3 b t d)
  pointwise [fn, fn_part1, fn_where] at e
  have e' := ofBool_one e
  have top : Ideal.ofBits .f32 2139095040#32 = ⊤ := by simp [Ideal.ofBits, Ideal.ieee]
  rw [top] at e'
  change max (x (ix3 b t d)) (-x (ix3 b t d)) < ⊤ at e'
  have h1 := (max_lt_iff.1 e').1
  have h2 := (max_lt_iff.1 e').2
  clear e e'
  generalize (x (ix3 b t d) : EReal) = y at h1 h2
  induction y using EReal.rec with
  | bot => simp at h2
  | top => simp at h1
  | coe r => exact ⟨r, rfl⟩

theorem score_of (x : FVec Ideal S2x4096x768 .f32) (a1 a2 : FVec Ideal S768 .f32) (a3 a4 : FVec Ideal S_ .f32)
    (h : (fn x a1 a2 a3 a4).2.1 = fun _ => 1#1) (b : Fin 2) (t s : Fin 4096) (hs : s.val ≤ t.val) : floor ≤ row x b t s := by
  have e := congrFun h (ix3 b t s)
  pointwise [fn, fn_part1, fn_where] at e
  rw [Cert.ReferenceIdeal.Value.sle_small _ _ (by omega) (by omega), decide_eq_true hs] at e
  rw [row, if_pos hs]
  refine ofBool_one (Eq.trans ?_ e)
  show _ = (~~~(BitVec.ofBool true)) ||| _
  simp

theorem strict_of (x : FVec Ideal S2x4096x768 .f32) (a1 a2 : FVec Ideal S768 .f32) (a3 a4 : FVec Ideal S_ .f32)
    (h : (fn x a1 a2 a3 a4).2.2 = fun _ => 1#1) (b : Fin 2) (t : Fin 4096) (ht : 8 ≤ t.val) (i j : Fin 4096) (hi : i.val < 8) (hj : j.val = i.val + 1) :
    row x b t (perm x b t j) < row x b t (perm x b t i) := by
  have e := congrFun h (ix3 b t (⟨i.val, hi⟩ : Fin 8))
  have e2 : (fn x a1 a2 a3 a4).2.2 = ori (broadcastInDim S2x4096x8 ![0, 1, 2] bcast_S1x4096x1_S2x4096x8_0_1_2 (broadcastInDim S1x4096x1 ![1] bcast_S4096_S1x4096x1_1
      (cmpi .slt (iotaInDim S4096 32 0) (broadcastInDim S4096 ![] bcast_S_S4096 (constantI S_ 32 8#32)))))
      (cmpf .olt ((extractStridedSlice S2x4096x8 ![0, 0, 1] · slices_S2x4096x9_S2x4096x8_0_0_1) (Host.topK S2x4096x9 2 (FloatOps.cmpfTotal .gt) (masked x) sliceFits_S2x4096x4096_S2x4096x9).1)
        ((extractStridedSlice S2x4096x8 ![0, 0, 0] · slices_S2x4096x9_S2x4096x8_0_0_0) (Host.topK S2x4096x9 2 (FloatOps.cmpfTotal .gt) (masked x) sliceFits_S2x4096x4096_S2x4096x9).1)) := by
    rw [← masked_eq]
    rfl
  rw [e2] at e
  pointwise [] at e
  rw [topK_fst x 9 (by norm_num) _ b t _, topK_fst x 9 (by norm_num) _ b t _] at e
  have lt : IntOp.cmpi CmpIPredicate.slt (BitVec.ofNat 32 t.val) 8#32 = 0#1 := by
    show BitVec.ofBool ((BitVec.ofNat 32 t.val).slt (BitVec.ofNat 32 8)) = _
    rw [BitVec.slt_eq_decide, Cert.ReferenceIdeal.Value.toInt_small _ (by omega), Cert.ReferenceIdeal.Value.toInt_small _ (by omega),
      decide_eq_false (by omega)]
    rfl
  rw [lt] at e
  have e' := ofBool_one ((zero_ori _).symm.trans e)
  have q : ∀ h1 h2, Fin.castLE h1 (⟨1 + i.val, h2⟩ : Fin 9) = j := fun _ _ => Fin.ext (by simp; omega)
  have q' : ∀ h1 h2, Fin.castLE h1 (⟨i.val, h2⟩ : Fin 9) = i := fun _ _ => rfl
  rw [q, q'] at e'
  exact e'

/-- Every row of scores is ordered as the selection needs. -/
theorem row_of (x : FVec Ideal S2x4096x768 .f32) (a1 a2 : FVec Ideal S768 .f32) (a3 a4 : FVec Ideal S_ .f32)
    (h2 : (fn x a1 a2 a3 a4).2.1 = fun _ => 1#1) (h3 : (fn x a1 a2 a3 a4).2.2 = fun _ => 1#1) (b : Fin 2) (t : Fin 4096) :
    Row 4096 neg floor t.val (row x b t) (perm x b t) where
  lt := neg_lt_half.trans half_lt_floor
  out := fun s hs => if_neg (by omega)
  inn := score_of x a1 a2 a3 a4 h2 b t
  inj := perm_inj x b t
  surj := perm_surj x b t
  sorted := perm_sorted x b t
  strict := strict_of x a1 a2 a3 a4 h3 b t

end Cert.Pre_top_eight_clear

end
-- ==== Proof.Algebraic.lean ====
/- Kernel and reference, over the extended reals: both end in the same array. -/
module

public import proofs.«01_k».proof.Defs
public import proofs.«01_k».proof.Proof.IdealFinal
public import proofs.«01_k».proof.Proof.RefValue
public import proofs.«01_k».proof.Proof.PreRow
public import proofs.«01_k».proof.Proof.Gen.ReferenceIdeal.Run
public import proofs.«01_k».proof.Proof.Gen.Pre_top_eight_clear

@[expose] public section

set_option maxRecDepth 16384

noncomputable section

namespace Cert.Proof

open Idealize.ShloMosaic Idealize.ShloMosaic.TcCoe Idealize.SL.Sem Cert.Sel

/-- Where the precondition holds, the two results are the same array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_top_eight_clear m)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v72 m' c = Cert.KernelIdeal.Gen.V6 m (Cert.KernelIdeal.Run.outs m) c Cert.KernelIdeal.main_v0 := by
  obtain ⟨e0, e1, e2, e3, e4⟩ := e
  obtain ⟨p1, p2, p3⟩ := hp c
  have R := Cert.Pre_top_eight_clear.row_of _ _ _ _ _ p2 p3
  have hx := Cert.Pre_top_eight_clear.real_of _ _ _ _ _ p1
  rw [Cert.ReferenceIdeal.Value.res_eq, e0, e1, e2, e3, e4]
  funext j
  have ej : ∃ (b : Fin 2) (t : Fin 4096) (d : Fin 768), j = ix3 b t d := ⟨j 0, j 1, j 2, by
    funext a
    match a with
    | ⟨0, _⟩ => rfl
    | ⟨1, _⟩ => rfl
    | ⟨2, _⟩ => rfl⟩
  obtain ⟨b, t, d, rfl⟩ := ej
  exact (Cert.ReferenceIdeal.Value.finalT_apply _ _ _ _ _ b t d (R b t)).trans (Cert.KernelIdeal.Value.final_apply m c hx R b t d).symm

/-- Over the extended reals the kernel computes the reference. -/
theorem algebraic_holds : Cert.algebraic_KernelIdeal_ReferenceIdeal_pre_top_eight_clear := fun m g m' g' hp he =>
  ⟨fun c => Cert.KernelIdeal.Gen.V6 m (Cert.KernelIdeal.Run.outs m) c Cert.KernelIdeal.main_v0,
    (θ_run Cert.KernelIdeal.defs _ _).mono (fun _ h => h.1) (Cert.KernelIdeal.Run.run (F := Ideal) m g),
    (θ_run Cert.ReferenceIdeal.defs _ _).mono (fun _ h c => ⟨(h c).1.trans (same m m' c hp (he c)), (h c).2⟩)
      (Cert.ReferenceIdeal.Value.run (F := Ideal) m' g')⟩

end Cert.Proof

end
-- ==== Proof.lean ====
/- The certificate's claims together: the three frames, `preserves` for the one named constant, and the equation of
   kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_top_eight_clear
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts, Cert.Pre_top_eight_clear.Gen.facts,
    frame_kernel, frame_ideal, fun m g _ => frame_ideal m g trivial, frame_reference, fun m g _ => frame_reference m g trivial,
    IdealRules.named_const.statement Cert.KernelIdeal.κ "sqrt_two" .f32 0x3FB504F3#32 _ rfl,
    algebraic_holds⟩

end Cert.Proof

end
